-- ==== Defs.lean ====
def Pre_Kernel [hPre_sendable_Kernel : Cert.Pre_sendable_Kernel.Facts] (m : (ℓ : Loc Cert.Kernel.nD Cert.Kernel.τ Cert.Kernel.sig) → Buf (Elt Bits) ℓ) : Prop :=
  ∀ c : Dev Cert.Kernel.nD,
    (Cert.Pre_sendable_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_sendable_Kernel : Cert.Pre_sendable_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sendable_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sendable_ReferenceIdeal [hPre_sendable_ReferenceIdeal : Cert.Pre_sendable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_sendable_Kernel : Cert.Pre_sendable_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_sendable_Kernel : Cert.Pre_sendable_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sendable_ReferenceIdeal [hReferenceIdeal : Cert.ReferenceIdeal.Facts] [hPre_sendable_ReferenceIdeal : Cert.Pre_sendable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sendable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_balanced [hKernelIdeal : Cert.KernelIdeal.Facts] [hReferenceIdeal : Cert.ReferenceIdeal.Facts] [hPre_sendable_Kernel : Cert.Pre_sendable_Kernel.Facts] [hOn_balanced : Cert.On_balanced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1, 1024]⟩ ⟨2, ![1, 2048]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 512]⟩ : Shape).Idx, (Layout.blockN ⟨2, ![1024, 512]⟩ ⟨2, ![2048, 512]⟩ (Layout.meshBlock [2, 2] ![[1], []] c) ((Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 512]⟩ : Shape).Idx → _) i = 1#1 → r.2.mem ((c.tc : Thread Cert.KernelIdeal.nD Cert.KernelIdeal.τ).loc Cert.KernelIdeal.main_v1) i = (Layout.blockN ⟨2, ![1024, 512]⟩ ⟨2, ![2048, 512]⟩ (Layout.meshBlock [2, 2] ![[1], []] c) v0 : (⟨2, ![1024, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 512]⟩ : Shape).Idx, (Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sendable_Kernel : Cert.Pre_sendable_Kernel.Facts) (hPre_sendable_ReferenceIdeal : Cert.Pre_sendable_ReferenceIdeal.Facts) (hOn_balanced : Cert.On_balanced.Facts),
    quiescent_Kernel (hKernel := hKernel) (hPre_sendable_Kernel := hPre_sendable_Kernel)
    ∧ quiescent_KernelIdeal (hKernelIdeal := hKernelIdeal) (hPre_sendable_Kernel := hPre_sendable_Kernel)
    ∧ quiescent_ReferenceIdeal (hReferenceIdeal := hReferenceIdeal)
    ∧ quiescent_ReferenceIdeal_pre_sendable_ReferenceIdeal (hReferenceIdeal := hReferenceIdeal) (hPre_sendable_ReferenceIdeal := hPre_sendable_ReferenceIdeal)
    ∧ preserves_Kernel_KernelIdeal
    ∧ algebraic_KernelIdeal_ReferenceIdeal_on_balanced (hKernelIdeal := hKernelIdeal) (hReferenceIdeal := hReferenceIdeal) (hPre_sendable_Kernel := hPre_sendable_Kernel) (hOn_balanced := hOn_balanced)
-- ==== On_balanced.lean ====
abbrev S2048x512 : Shape := ⟨2, ![2048, 512]⟩
abbrev S1x2048 : Shape := ⟨2, ![1, 2048]⟩
abbrev S_ : Shape := ⟨0, ![]⟩
abbrev S1x1024 : Shape := ⟨2, ![1, 1024]⟩

class Facts : Prop where
  bcast_S_S1x2048 : S_.BroadcastsInDim S1x2048 (![] : Fin 0 → Fin S1x2048.rank)
  natLt_1_32 : 1 < 32
  reducesTo_S1x2048_S_d0_1 : S1x2048.ReducesTo [0, 1] S_
  h_S_ : 0 < S_.numel
  slices_S1x2048_S1x1024_0_0 : S1x2048.Slices ![0, 0] S1x1024
  reducesTo_S1x1024_S_d0_1 : S1x1024.ReducesTo [0, 1] S_
  bcast_S_S2048x512 : S_.BroadcastsInDim S2048x512 (![] : Fin 0 → Fin S2048x512.rank)

variable [Facts]

def fn_part1 {F : FTy → Type} [FloatOps F] (main_v15 : IVec S_ 1) : IVec S2048x512 1 :=
  let main_v16 : IVec S2048x512 1 := broadcastInDim S2048x512 ![] bcast_S_S2048x512 main_v15
  main_v16

def fn {F : FTy → Type} [FloatOps F] (main_arg0 : FVec F S2048x512 .bf16) (main_arg1 : IVec S1x2048 32) : IVec S2048x512 1 :=
  let main_c : IVec S_ 32 := constantI S_ 32 0#32
  let main_v0 : IVec S1x2048 32 := broadcastInDim S1x2048 ![] bcast_S_S1x2048 main_c
  let main_v1 : IVec S1x2048 1 := cmpi .eq main_arg1 main_v0
  let main_v2 : IVec S1x2048 32 := (extui 32 · natLt_1_32) main_v1
  let main_c_0 : IVec S_ 32 := constantI S_ 32 0#32
  let main_v3 : IVec S_ 32 := (fun x v => Host.reduce IntOp.addi x v reducesTo_S1x2048_S_d0_1 h_S_) main_v2 main_c_0
  let main_v4 : IVec S1x1024 32 := (extractStridedSlice S1x1024 ![0, 0] · slices_S1x2048_S1x1024_0_0) main_v2
  let main_c_1 : IVec S_ 32 := constantI S_ 32 0#32
  let main_v5 : IVec S_ 32 := (fun x v => Host.reduce IntOp.addi x v reducesTo_S1x1024_S_d0_1 h_S_) main_v4 main_c_1
  let main_c_2 : IVec S_ 32 := constantI S_ 32 0#32
  let main_v6 : IVec S1x2048 32 := broadcastInDim S1x2048 ![] bcast_S_S1x2048 main_c_2
  let main_v7 : IVec S1x2048 1 := cmpi .eq main_arg1 main_v6
  let main_c_3 : IVec S_ 32 := constantI S_ 32 1#32
  let main_v8 : IVec S1x2048 32 := broadcastInDim S1x2048 ![] bcast_S_S1x2048 main_c_3
  let main_v9 : IVec S1x2048 1 := cmpi .eq main_arg1 main_v8
  let main_v10 : IVec S1x2048 1 := ori main_v7 main_v9
  let main_c_4 : IVec S_ 1 := constantI S_ 1 1#1
  let main_v11 : IVec S_ 1 := (fun x v => Host.reduce IntOp.andi x v reducesTo_S1x2048_S_d0_1 h_S_) main_v10 main_c_4
  let main_c_5 : IVec S_ 32 := constantI S_ 32 1024#32
  let main_v12 : IVec S_ 1 := cmpi .eq main_v3 main_c_5
  let main_v13 : IVec S_ 1 := andi main_v11 main_v12
  let main_c_6 : IVec S_ 32 := constantI S_ 32 512#32
  let main_v14 : IVec S_ 1 := cmpi .sge main_v5 main_c_6
  let main_v15 : IVec S_ 1 := andi main_v13 main_v14
  fn_part1 (F := F) main_v15
-- ==== Pre_sendable_Kernel.lean ====
abbrev S1024x512 : Shape := ⟨2, ![1024, 512]⟩
abbrev S1x1024 : Shape := ⟨2, ![1, 1024]⟩
abbrev S_ : Shape := ⟨0, ![]⟩
abbrev S1 : Shape := ⟨1, ![1]⟩
abbrev S2 : Shape := ⟨1, ![2]⟩

class Facts : Prop where
  bcast_S_S1x1024 : S_.BroadcastsInDim S1x1024 (![] : Fin 0 → Fin S1x1024.rank)
  natLt_1_32 : 1 < 32
  reducesTo_S1x1024_S_d0_1 : S1x1024.ReducesTo [0, 1] S_
  h_S_ : 0 < S_.numel
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S1024x512 .bf16) (main_arg1 : IVec S1x1024 32) : IVec S2 1 :=
  let main_c : IVec S_ 32 := constantI S_ 32 0#32
  let main_v0 : IVec S1x1024 32 := broadcastInDim S1x1024 ![] bcast_S_S1x1024 main_c
  let main_v1 : IVec S1x1024 1 := cmpi .eq main_arg1 main_v0
  let main_v2 : IVec S1x1024 32 := (extui 32 · natLt_1_32) main_v1
  let main_c_0 : IVec S_ 32 := constantI S_ 32 0#32
  let main_v3 : IVec S_ 32 := (fun x v => Host.reduce IntOp.addi x v reducesTo_S1x1024_S_d0_1 h_S_) main_v2 main_c_0
  let main_c_1 : IVec S_ 32 := constantI S_ 32 121#32
  let main_v4 : IVec S_ 1 := cmpi .sge main_v3 main_c_1
  let main_c_2 : IVec S_ 32 := constantI S_ 32 903#32
  let main_v5 : IVec S_ 1 := cmpi .sle main_v3 main_c_2
  let main_v6 : IVec S1 1 := broadcastInDim S1 ![] bcast_S_S1 main_v4
  let main_v7 : IVec S1 1 := broadcastInDim S1 ![] bcast_S_S1 main_v5
  let main_v8 : IVec S2 1 := (fun a b => concatenate S2 0 [⟨S1, a⟩, ⟨S1, b⟩] concatenates_S1_S1_S2_d0) main_v6 main_v7
  main_v8
-- ==== Pre_sendable_ReferenceIdeal.lean ====
abbrev S2048x512 : Shape := ⟨2, ![2048, 512]⟩
abbrev S1x2048 : Shape := ⟨2, ![1, 2048]⟩
abbrev S_ : Shape := ⟨0, ![]⟩
abbrev S1 : Shape := ⟨1, ![1]⟩
abbrev S2 : Shape := ⟨1, ![2]⟩

class Facts : Prop where
  bcast_S_S1x2048 : S_.BroadcastsInDim S1x2048 (![] : Fin 0 → Fin S1x2048.rank)
  natLt_1_32 : 1 < 32
  reducesTo_S1x2048_S_d0_1 : S1x2048.ReducesTo [0, 1] S_
  h_S_ : 0 < S_.numel
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S2048x512 .bf16) (main_arg1 : IVec S1x2048 32) : IVec S2 1 :=
  let main_c : IVec S_ 32 := constantI S_ 32 0#32
  let main_v0 : IVec S1x2048 32 := broadcastInDim S1x2048 ![] bcast_S_S1x2048 main_c
  let main_v1 : IVec S1x2048 1 := cmpi .eq main_arg1 main_v0
  let main_v2 : IVec S1x2048 32 := (extui 32 · natLt_1_32) main_v1
  let main_c_0 : IVec S_ 32 := constantI S_ 32 0#32
  let main_v3 : IVec S_ 32 := (fun x v => Host.reduce IntOp.addi x v reducesTo_S1x2048_S_d0_1 h_S_) main_v2 main_c_0
  let main_c_1 : IVec S_ 32 := constantI S_ 32 121#32
  let main_v4 : IVec S_ 1 := cmpi .sge main_v3 main_c_1
  let main_c_2 : IVec S_ 32 := constantI S_ 32 903#32
  let main_v5 : IVec S_ 1 := cmpi .sle main_v3 main_c_2
  let main_v6 : IVec S1 1 := broadcastInDim S1 ![] bcast_S_S1 main_v4
  let main_v7 : IVec S1 1 := broadcastInDim S1 ![] bcast_S_S1 main_v5
  let main_v8 : IVec S2 1 := (fun a b => concatenate S2 0 [⟨S1, a⟩, ⟨S1, b⟩] concatenates_S1_S1_S2_d0) main_v6 main_v7
  main_v8
-- ==== Kernel.lean ====
abbrev S1024x512 : Shape := ⟨2, ![1024, 512]⟩
abbrev S1x1024 : Shape := ⟨2, ![1, 1024]⟩
abbrev S1x1 : Shape := ⟨2, ![1, 1]⟩
abbrev S_ : Shape := ⟨0, ![]⟩
abbrev S4 : Shape := ⟨1, ![4]⟩
abbrev S1x1023 : Shape := ⟨2, ![1, 1023]⟩
abbrev S1x2 : Shape := ⟨2, ![1, 2]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x16 : Shape := ⟨2, ![1, 16]⟩
abbrev S1x1008 : Shape := ⟨2, ![1, 1008]⟩
abbrev S1x32 : Shape := ⟨2, ![1, 32]⟩
abbrev S1x992 : Shape := ⟨2, ![1, 992]⟩
abbrev S1x64 : Shape := ⟨2, ![1, 64]⟩
abbrev S1x960 : Shape := ⟨2, ![1, 960]⟩
abbrev S1x128 : Shape := ⟨2, ![1, 128]⟩
abbrev S1x896 : Shape := ⟨2, ![1, 896]⟩
abbrev S1x256 : Shape := ⟨2, ![1, 256]⟩
abbrev S1x768 : Shape := ⟨2, ![1, 768]⟩
abbrev S1x512 : Shape := ⟨2, ![1, 512]⟩
abbrev S1024x1024 : Shape := ⟨2, ![1024, 1024]⟩
abbrev S1 : Shape := ⟨1, ![1]⟩
abbrev S128x512 : Shape := ⟨2, ![128, 512]⟩
abbrev S1024x1 : Shape := ⟨2, ![1024, 1]⟩
abbrev S1024x128 : Shape := ⟨2, ![1024, 128]⟩

abbrev nBuf : Space → Nat
  | .hbm => 3
  | .vmem => 6
  | .smem => 1
  | _ => 0

abbrev bufTy : (tb : Table) → Fin (tcTables nBuf tb) → BufTy
  | .hbm, ⟨0, _⟩ => ⟨S1024x512, .bf16⟩
  | .hbm, ⟨1, _⟩ => ⟨S1x1024, .i32⟩
  | .hbm, ⟨2, _⟩ => ⟨S1024x512, .bf16⟩
  | .local _ .vmem, ⟨0, _⟩ => ⟨S1024x512, .bf16⟩
  | .local _ .vmem, ⟨1, _⟩ => ⟨S1x1024, .i32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1x1, .i32⟩
  | .local _ .smem, ⟨0, _⟩ => ⟨S1x1, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v12 : BitVec 32 := Scalar.muli v2 c2_i32_5
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v14 : BitVec 32 := Scalar.muli v6 c1_i32_6
  let v15 : BitVec 32 := Scalar.addi v13 v14
  v15.toNat
def k0_off1 (d0 : Dev nD) (v126 : BitVec 32) (c0_i32_63 : BitVec 32) : Fin 2 → Nat :=
  let c1_i32_34 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v131 : BitVec 32 := Scalar.subi c1_i32_34 v5
  let v132 : BitVec 32 := Scalar.muli v131 v126
  let c1024_i32_33 : BitVec 32 := 1024#32
  let c0_i32_32 : BitVec 32 := 0#32
  let v127 : BitVec 1 := Scalar.cmpi .eq v5 c0_i32_32
  let c1024_i32 : BitVec 32 := 1024#32
  let v128 : BitVec 32 := Scalar.subi c1024_i32 v126
  let v129 : BitVec 32 := Scalar.select v127 v126 v128
  let v130 : BitVec 32 := Scalar.subi c1024_i32_33 v129
  let v154 : BitVec 32 := Scalar.addi v132 v130
  let c7_i32 : BitVec 32 := 7#32
  let v155 : BitVec 32 := Scalar.addi v154 c7_i32
  let c0_i32_45 : BitVec 32 := 0#32
  let v157 : BitVec 1 := Scalar.cmpi .sgt v155 c0_i32_45
  let v158 : BitVec 32 := Scalar.extui v157
  let c0_i32_46 : BitVec 32 := 0#32
  let v159 : BitVec 1 := Scalar.cmpi .slt v155 c0_i32_46
  let v160 : BitVec 32 := Scalar.extui v159
  let v161 : BitVec 32 := Scalar.subi v158 v160
  let c8_i32_44 : BitVec 32 := 8#32
  let c0_i32_47 : BitVec 32 := 0#32
  let v162 : BitVec 1 := Scalar.cmpi .sgt c8_i32_44 c0_i32_47
  let v163 : BitVec 32 := Scalar.extui v162
  let c0_i32_48 : BitVec 32 := 0#32
  let v164 : BitVec 1 := Scalar.cmpi .slt c8_i32_44 c0_i32_48
  let v165 : BitVec 32 := Scalar.extui v164
  let v166 : BitVec 32 := Scalar.subi v163 v165
  let v167 : BitVec 1 := Scalar.cmpi .ne v161 v166
  let v168 : BitVec 32 := Scalar.remsi v155 c8_i32_44
  let c0_i32_49 : BitVec 32 := 0#32
  let v169 : BitVec 1 := Scalar.cmpi .ne v168 c0_i32_49
  let v170 : BitVec 1 := Scalar.andi v167 v169
  let v156 : BitVec 32 := Scalar.divsi v155 c8_i32_44
  let c1_i32_50 : BitVec 32 := 1#32
  let v171 : BitVec 32 := Scalar.subi v156 c1_i32_50
  let v172 : BitVec 32 := Scalar.select v170 v171 v156
  let c8_i32_51 : BitVec 32 := 8#32
  let v173 : BitVec 32 := Scalar.muli v172 c8_i32_51
  let c0_i32_37 : BitVec 32 := 0#32
  let v137 : BitVec 1 := Scalar.cmpi .sgt v132 c0_i32_37
  let v138 : BitVec 32 := Scalar.extui v137
  let c0_i32_38 : BitVec 32 := 0#32
  let v139 : BitVec 1 := Scalar.cmpi .slt v132 c0_i32_38
  let v140 : BitVec 32 := Scalar.extui v139
  let v141 : BitVec 32 := Scalar.subi v138 v140
  let c8_i32_36 : BitVec 32 := 8#32
  let c0_i32_39 : BitVec 32 := 0#32
  let v142 : BitVec 1 := Scalar.cmpi .sgt c8_i32_36 c0_i32_39
  let v143 : BitVec 32 := Scalar.extui v142
  let c0_i32_40 : BitVec 32 := 0#32
  let v144 : BitVec 1 := Scalar.cmpi .slt c8_i32_36 c0_i32_40
  let v145 : BitVec 32 := Scalar.extui v144
  let v146 : BitVec 32 := Scalar.subi v143 v145
  let v147 : BitVec 1 := Scalar.cmpi .ne v141 v146
  let v148 : BitVec 32 := Scalar.remsi v132 c8_i32_36
  let c0_i32_41 : BitVec 32 := 0#32
  let v149 : BitVec 1 := Scalar.cmpi .ne v148 c0_i32_41
  let v150 : BitVec 1 := Scalar.andi v147 v149
  let v136 : BitVec 32 := Scalar.divsi v132 c8_i32_36
  let c1_i32_42 : BitVec 32 := 1#32
  let v151 : BitVec 32 := Scalar.subi v136 c1_i32_42
  let v152 : BitVec 32 := Scalar.select v150 v151 v136
  let c8_i32_43 : BitVec 32 := 8#32
  let v153 : BitVec 32 := Scalar.muli v152 c8_i32_43
  let v174 : BitVec 32 := Scalar.subi v173 v153
  let c128_i32_62 : BitVec 32 := 128#32
  let v197 : BitVec 32 := Scalar.subi v174 c128_i32_62
  let v198 : BitVec 32 := Scalar.minsi c0_i32_63 v197
  let c0_i32_69 : BitVec 32 := 0#32
  ![v198.toNat, 0]

def k0_off2 (d0 : Dev nD) (v126 : BitVec 32) (c0_i32_63 : BitVec 32) : Fin 2 → Nat :=
  let c1_i32_34 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v131 : BitVec 32 := Scalar.subi c1_i32_34 v5
  let v132 : BitVec 32 := Scalar.muli v131 v126
  let c0_i32_37 : BitVec 32 := 0#32
  let v137 : BitVec 1 := Scalar.cmpi .sgt v132 c0_i32_37
  let v138 : BitVec 32 := Scalar.extui v137
  let c0_i32_38 : BitVec 32 := 0#32
  let v139 : BitVec 1 := Scalar.cmpi .slt v132 c0_i32_38
  let v140 : BitVec 32 := Scalar.extui v139
  let v141 : BitVec 32 := Scalar.subi v138 v140
  let c8_i32_36 : BitVec 32 := 8#32
  let c0_i32_39 : BitVec 32 := 0#32
  let v142 : BitVec 1 := Scalar.cmpi .sgt c8_i32_36 c0_i32_39
  let v143 : BitVec 32 := Scalar.extui v142
  let c0_i32_40 : BitVec 32 := 0#32
  let v144 : BitVec 1 := Scalar.cmpi .slt c8_i32_36 c0_i32_40
  let v145 : BitVec 32 := Scalar.extui v144
  let v146 : BitVec 32 := Scalar.subi v143 v145
  let v147 : BitVec 1 := Scalar.cmpi .ne v141 v146
  let v148 : BitVec 32 := Scalar.remsi v132 c8_i32_36
  let c0_i32_41 : BitVec 32 := 0#32
  let v149 : BitVec 1 := Scalar.cmpi .ne v148 c0_i32_41
  let v150 : BitVec 1 := Scalar.andi v147 v149
  let v136 : BitVec 32 := Scalar.divsi v132 c8_i32_36
  let c1_i32_42 : BitVec 32 := 1#32
  let v151 : BitVec 32 := Scalar.subi v136 c1_i32_42
  let v152 : BitVec 32 := Scalar.select v150 v151 v136
  let c8_i32_43 : BitVec 32 := 8#32
  let v153 : BitVec 32 := Scalar.muli v152 c8_i32_43
  let c1024_i32_33 : BitVec 32 := 1024#32
  let c0_i32_32 : BitVec 32 := 0#32
  let v127 : BitVec 1 := Scalar.cmpi .eq v5 c0_i32_32
  let c1024_i32 : BitVec 32 := 1024#32
  let v128 : BitVec 32 := Scalar.subi c1024_i32 v126
  let v129 : BitVec 32 := Scalar.select v127 v126 v128
  let v130 : BitVec 32 := Scalar.subi c1024_i32_33 v129
  let v154 : BitVec 32 := Scalar.addi v132 v130
  let c7_i32 : BitVec 32 := 7#32
  let v155 : BitVec 32 := Scalar.addi v154 c7_i32
  let c0_i32_45 : BitVec 32 := 0#32
  let v157 : BitVec 1 := Scalar.cmpi .sgt v155 c0_i32_45
  let v158 : BitVec 32 := Scalar.extui v157
  let c0_i32_46 : BitVec 32 := 0#32
  let v159 : BitVec 1 := Scalar.cmpi .slt v155 c0_i32_46
  let v160 : BitVec 32 := Scalar.extui v159
  let v161 : BitVec 32 := Scalar.subi v158 v160
  let c8_i32_44 : BitVec 32 := 8#32
  let c0_i32_47 : BitVec 32 := 0#32
  let v162 : BitVec 1 := Scalar.cmpi .sgt c8_i32_44 c0_i32_47
  let v163 : BitVec 32 := Scalar.extui v162
  let c0_i32_48 : BitVec 32 := 0#32
  let v164 : BitVec 1 := Scalar.cmpi .slt c8_i32_44 c0_i32_48
  let v165 : BitVec 32 := Scalar.extui v164
  let v166 : BitVec 32 := Scalar.subi v163 v165
  let v167 : BitVec 1 := Scalar.cmpi .ne v161 v166
  let v168 : BitVec 32 := Scalar.remsi v155 c8_i32_44
  let c0_i32_49 : BitVec 32 := 0#32
  let v169 : BitVec 1 := Scalar.cmpi .ne v168 c0_i32_49
  let v170 : BitVec 1 := Scalar.andi v167 v169
  let v156 : BitVec 32 := Scalar.divsi v155 c8_i32_44
  let c1_i32_50 : BitVec 32 := 1#32
  let v171 : BitVec 32 := Scalar.subi v156 c1_i32_50
  let v172 : BitVec 32 := Scalar.select v170 v171 v156
  let c8_i32_51 : BitVec 32 := 8#32
  let v173 : BitVec 32 := Scalar.muli v172 c8_i32_51
  let v174 : BitVec 32 := Scalar.subi v173 v153
  let c128_i32_62 : BitVec 32 := 128#32
  let v197 : BitVec 32 := Scalar.subi v174 c128_i32_62
  let v198 : BitVec 32 := Scalar.minsi c0_i32_63 v197
  let v199 : BitVec 32 := Scalar.addi v153 v198
  let c0_i32_70 : BitVec 32 := 0#32
  ![v199.toNat, 0]

def k0_chk1 (d0 : Dev nD) (v126 : BitVec 32) : Prop :=
  (∀ (r : Fin 4), ∀ a, (k0_off1 d0 v126 (BitVec.ofNat 32 (128 * r.val))) a + S128x512.size a ≤ S1024x512.size a) ∧
  (∀ (r : Fin 4), ∀ a, (k0_off2 d0 v126 (BitVec.ofNat 32 (128 * r.val))) a + S128x512.size a ≤ S1024x512.size a) ∧
  (∀ (r : Fin 4), ∀ (hinb : ∀ a, (k0_off2 d0 v126 (BitVec.ofNat 32 (128 * r.val))) a + S128x512.size a ≤ S1024x512.size a), (Rect.unit (s := S1024x512) (k0_off2 d0 v126 (BitVec.ofNat 32 (128 * r.val))) S128x512.size hinb).WholeWords (EltTy.packing .bf16)) ∧
  (∀ (r : Fin 4), ∀ (hinb : ∀ a, (k0_off1 d0 v126 (BitVec.ofNat 32 (128 * r.val))) a + S128x512.size a ≤ S1024x512.size a), (Rect.unit (s := S1024x512) (k0_off1 d0 v126 (BitVec.ofNat 32 (128 * r.val))) S128x512.size hinb).WholeWords (EltTy.packing .bf16))
theorem k0_off1_inb : ∀ (d0 : Dev nD) (v126 : BitVec 32) (k0_hw1 : k0_chk1 d0 v126), ∀ (r : Fin 4), ∀ a, (k0_off1 d0 v126 (BitVec.ofNat 32 (128 * r.val))) a + S128x512.size a ≤ S1024x512.size a := fun d0 v126 k0_hw1 r => k0_hw1.1 r
theorem k0_off2_inb : ∀ (d0 : Dev nD) (v126 : BitVec 32) (k0_hw1 : k0_chk1 d0 v126), ∀ (r : Fin 4), ∀ a, (k0_off2 d0 v126 (BitVec.ofNat 32 (128 * r.val))) a + S128x512.size a ≤ S1024x512.size a := fun d0 v126 k0_hw1 r => k0_hw1.2.1 r
theorem k0_off2_wordsbf16 : ∀ (d0 : Dev nD) (v126 : BitVec 32) (k0_hw1 : k0_chk1 d0 v126), ∀ (r : Fin 4), (Rect.unit (s := S1024x512) (k0_off2 d0 v126 (BitVec.ofNat 32 (128 * r.val))) S128x512.size (k0_off2_inb d0 v126 k0_hw1 r)).WholeWords (EltTy.packing .bf16) := fun d0 v126 k0_hw1 r => k0_hw1.2.2.1 r (k0_off2_inb d0 v126 k0_hw1 r)
theorem k0_off1_wordsbf16 : ∀ (d0 : Dev nD) (v126 : BitVec 32) (k0_hw1 : k0_chk1 d0 v126), ∀ (r : Fin 4), (Rect.unit (s := S1024x512) (k0_off1 d0 v126 (BitVec.ofNat 32 (128 * r.val))) S128x512.size (k0_off1_inb d0 v126 k0_hw1 r)).WholeWords (EltTy.packing .bf16) := fun d0 v126 k0_hw1 r => k0_hw1.2.2.2 r (k0_off1_inb d0 v126 k0_hw1 r)

def k0_dev2 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v200 : BitVec 32 := Scalar.muli v2 c2_i32_66
  let v201 : BitVec 32 := Scalar.addi c0_i32_67 v200
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v202 : BitVec 32 := Scalar.muli v6 c1_i32_68
  let v203 : BitVec 32 := Scalar.addi v201 v202
  v203.toNat
def k0_dev3 (d0 : Dev nD) : Nat :=
  let c0_i32_76 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_75 : BitVec 32 := 2#32
  let v213 : BitVec 32 := Scalar.muli v2 c2_i32_75
  let v214 : BitVec 32 := Scalar.addi c0_i32_76 v213
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_77 : BitVec 32 := 1#32
  let v215 : BitVec 32 := Scalar.muli v6 c1_i32_77
  let v216 : BitVec 32 := Scalar.addi v214 v215
  v216.toNat
def k0_dev4 (d0 : Dev nD) : Nat :=
  let c0_i32_85 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_84 : BitVec 32 := 2#32
  let v226 : BitVec 32 := Scalar.muli v2 c2_i32_84
  let v227 : BitVec 32 := Scalar.addi c0_i32_85 v226
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_86 : BitVec 32 := 1#32
  let v228 : BitVec 32 := Scalar.muli v6 c1_i32_86
  let v229 : BitVec 32 := Scalar.addi v227 v228
  v229.toNat
def k0_dev5 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v239 : BitVec 32 := Scalar.muli v2 c2_i32_91
  let v240 : BitVec 32 := Scalar.addi c0_i32_92 v239
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_93 : BitVec 32 := 1#32
  let v241 : BitVec 32 := Scalar.muli v6 c1_i32_93
  let v242 : BitVec 32 := Scalar.addi v240 v241
  v242.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S1x2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Counts.lean ====
/-
# Counting the zeros

The kernel's running counts are the numbers of zeros up to each position, and the precondition bounds the count of all.
-/
module

public import proofs.«01_k».proof.Proof.Gen.KernelIdeal.Skeleton
public import Idealize.ShloMosaic.Lib.Pipeline.Value
public import Idealize.ShloMosaic.Lib.Pointwise.Reduce
public import Mathlib.Order.Interval.Finset.Nat
public import Mathlib.Data.Nat.Count

@[expose] public section

noncomputable section

namespace Cert.Counts

open Cert.KernelIdeal Cert.KernelIdeal.Gen
open Idealize.ShloMosaic

variable {F : FTy → Type} [FloatOps F]

/-- Column `k` of a one-row array. -/
def lix (k : Fin 1024) : S1x1024.Idx
  | ⟨0, _⟩ => (0 : Fin 1)
  | ⟨1, _⟩ => k

theorem lix_eta (i : S1x1024.Idx) : i = lix (i 1) := funext fun a => by
  match a with
  | ⟨0, _⟩ => exact Subsingleton.elim (α := Fin 1) _ _
  | ⟨1, _⟩ => rfl

/-- Position `i` holds a zero. -/
def Zer (d : S1x1024.Idx → BitVec 32) (i : ℕ) : Prop := ∃ h : i < 1024, d (lix ⟨i, h⟩) = 0#32
instance (d : S1x1024.Idx → BitVec 32) : DecidablePred (Zer d) := fun i => by unfold Zer; infer_instance
theorem zer_iff (d : S1x1024.Idx → BitVec 32) (k : Fin 1024) : Zer d k.val ↔ d (lix k) = 0#32 := ⟨fun ⟨_, h⟩ => h, fun h => ⟨k.isLt, h⟩⟩

/-- The zeros before position `n`. -/
def cz (d : S1x1024.Idx → BitVec 32) (n : ℕ) : ℕ := Nat.count (Zer d) n

theorem cz_zero (d : S1x1024.Idx → BitVec 32) : cz d 0 = 0 := Nat.count_zero _
theorem cz_succ (d : S1x1024.Idx → BitVec 32) (n : ℕ) : cz d (n + 1) = cz d n + if Zer d n then 1 else 0 := Nat.count_succ _ _
theorem cz_mono (d : S1x1024.Idx → BitVec 32) {a b : ℕ} (h : a ≤ b) : cz d a ≤ cz d b := Nat.count_monotone _ h
theorem cz_le (d : S1x1024.Idx → BitVec 32) (n : ℕ) : cz d n ≤ n := Nat.count_le (Zer d)
theorem cz_gap (d : S1x1024.Idx → BitVec 32) (a b : ℕ) : cz d (a + b) ≤ cz d a + b := by
  have h : ∀ b, cz d (a + b) ≤ cz d a + b := fun b => by
    induction b with
    | zero => exact le_rfl
    | succ b ih => rw [← Nat.add_assoc, cz_succ]; split <;> omega
  exact h b

/-! ## The doubling steps -/

/-- `x` holds, at each position, the number of zeros among the last `s` positions up to it. -/
def Window (d : S1x1024.Idx → BitVec 32) (s : ℕ) (x : IVec S1x1024 32) : Prop :=
  ∀ k : Fin 1024, (x (lix k)).toNat + cz d (k.val + 1 - s) = cz d (k.val + 1)

abbrev lane : IVec S1x1024 32 := iota .tc S1x1024 32 [1] iota_S1x1024_d1_w32
theorem lane_at (k : Fin 1024) : lane (lix k) = BitVec.ofNat 32 k.val := by
  show BitVec.ofNat 32 (([1] : List (Fin 2)).foldl (fun n a => n * S1x1024.size a + (lix k a).val) 0) = _
  rw [List.foldl_cons, List.foldl_nil, Nat.zero_mul, Nat.zero_add]; rfl

theorem slt_small {x y : BitVec 32} (hx : x.toNat < 2 ^ 31) (hy : y.toNat < 2 ^ 31) : x.slt y = decide (x.toNat < y.toNat) := by
  rw [BitVec.slt_eq_decide, BitVec.toInt_eq_toNat_of_lt (by omega), BitVec.toInt_eq_toNat_of_lt (by omega)]; simp
theorem sle_small {x y : BitVec 32} (hx : x.toNat < 2 ^ 31) (hy : y.toNat < 2 ^ 31) : x.sle y = decide (x.toNat ≤ y.toNat) := by
  rw [BitVec.sle_eq_decide, BitVec.toInt_eq_toNat_of_lt (by omega), BitVec.toInt_eq_toNat_of_lt (by omega)]; simp

theorem select_ofBool {α : Type} (b : Bool) (x y : α) : Scalar.select (BitVec.ofBool b) x y = if b then x else y := by cases b <;> rfl

/-- One step: the counts `p` positions back are added where there are that many positions. -/
theorem window_step {d : S1x1024.Idx → BitVec 32} {x : IVec S1x1024 32} (p q : ℕ) (hpq : p + q = 1024) (hp : 0 < p) (w : BitVec 32) (hw : w.toNat = p)
    (h₁ : S1x1024.Slices ![0, q] ⟨2, ![1, p]⟩) (h₂ : S1x1024.Slices ![0, 0] ⟨2, ![1, q]⟩)
    (h₃ : Shape.Concatenates [⟨2, ![1, p]⟩, ⟨2, ![1, q]⟩] S1x1024 1) (hx : Window d p x) :
    Window d (p + p) (addi x (select (cmpi .sge lane (broadcast S1x1024 w))
      (concatenate S1x1024 1 [⟨⟨2, ![1, p]⟩, extractStridedSlice ⟨2, ![1, p]⟩ ![0, q] x h₁⟩, ⟨⟨2, ![1, q]⟩, extractStridedSlice ⟨2, ![1, q]⟩ ![0, 0] x h₂⟩] h₃)
      (broadcast S1x1024 0#32))) := fun k => by
  have hk := k.isLt
  have hsum : (addi x (select (cmpi .sge lane (broadcast S1x1024 w))
      (concatenate S1x1024 1 [⟨⟨2, ![1, p]⟩, extractStridedSlice ⟨2, ![1, p]⟩ ![0, q] x h₁⟩, ⟨⟨2, ![1, q]⟩, extractStridedSlice ⟨2, ![1, q]⟩ ![0, 0] x h₂⟩] h₃)
      (broadcast S1x1024 0#32))) (lix k) = x (lix k) + if h : p ≤ k.val then x (lix ⟨k.val - p, by omega⟩) else 0#32 := by
    refine congrArg (x (lix k) + ·) ?_
    have hc : cmpi .sge lane (broadcast S1x1024 w) (lix k) = BitVec.ofBool (decide (p ≤ k.val)) := by
      show BitVec.ofBool (w.sle (lane (lix k))) = _
      rw [lane_at, sle_small (by omega) (by rw [BitVec.toNat_ofNat]; omega), hw, BitVec.toNat_ofNat, Nat.mod_eq_of_lt (by omega)]
    show Scalar.select (cmpi .sge lane (broadcast S1x1024 w) (lix k)) _ _ = _
    rw [hc, select_ofBool]
    by_cases h : p ≤ k.val
    · rw [if_pos (decide_eq_true h), dif_pos h]
      let i : Shape.Idx ⟨2, ![1, q]⟩ := fun | ⟨0, _⟩ => (0 : Fin 1) | ⟨1, _⟩ => (⟨k.val - p, by omega⟩ : Fin q)
      rw [concatenate_pair_apply_right (t := S1x1024) (s₁ := ⟨2, ![1, p]⟩) (s₂ := ⟨2, ![1, q]⟩) (1 : Fin 2) (extractStridedSlice ⟨2, ![1, p]⟩ ![0, q] x h₁) (extractStridedSlice ⟨2, ![1, q]⟩ ![0, 0] x h₂) h₃ (lix k) rfl rfl i
        (fun b hb => by
          match b with
          | ⟨0, _⟩ => rfl
          | ⟨1, _⟩ => exact absurd rfl hb)
        (show k.val - p + p = k.val by omega)]
      exact extractStridedSlice_apply _ x h₂ i _ fun a => by
        match a with
        | ⟨0, _⟩ => rfl
        | ⟨1, _⟩ => exact (Nat.zero_add _).symm
    · rw [if_neg (by simpa using h), dif_neg h]; rfl
  have hxk := hx k
  rw [hsum, BitVec.toNat_add]
  split
  · rename_i h
    have hxp := hx ⟨k.val - p, by omega⟩
    have e1 : k.val - p + 1 = k.val + 1 - p := by omega
    have e2 : k.val - p + 1 - p = k.val + 1 - (p + p) := by omega
    simp only [e2] at hxp
    rw [e1] at hxp
    have := cz_le d (k.val + 1)
    rw [Nat.mod_eq_of_lt (by omega)]
    omega
  · rename_i h
    have e : k.val + 1 - p = 0 := by omega
    rw [e, cz_zero] at hxk
    have e' : k.val + 1 - (p + p) = 0 := by omega
    rw [e', cz_zero]
    have := cz_le d (k.val + 1)
    simp only [BitVec.ofNat_eq_ofNat, BitVec.toNat_ofNat, Nat.zero_mod, Nat.add_zero]
    rw [Nat.mod_eq_of_lt (by omega)]
    omega

variable (d : Vec F S1x1024 .i32)

theorem ones_at (k : Fin 1024) : k0_pay2 d (lix k) = if d (lix k) = 0#32 then 1#32 else 0#32 := by
  show (IntOp.cmpi .eq (shapeCast S1x1024 d shapeCasts_S1x1024_S1x1024 (lix k)) 0#32).setWidth 32 = _
  rw [shapeCast_self]
  show (BitVec.ofBool ((d (lix k) : BitVec 32) == 0#32)).setWidth 32 = _
  by_cases h : d (lix k) = 0#32
  · rw [if_pos h, h]; rfl
  · rw [if_neg h, beq_eq_false_iff_ne.mpr h]; rfl

theorem window_one : Window d 1 (k0_pay2 d) := fun k => by
  rw [ones_at, Nat.add_sub_cancel, cz_succ]
  by_cases h : d (lix k) = 0#32
  · rw [if_pos h, if_pos ((zer_iff d k).mpr h)]; exact Nat.add_comm _ _
  · rw [if_neg h, if_neg (fun h' => h ((zer_iff d k).mp h'))]; exact Nat.add_comm _ _

theorem window_pay3 : Window d 4 (k0_pay3 d) :=
  window_step 2 1022 rfl (by decide) 2#32 rfl _ _ _ (window_step 1 1023 rfl (by decide) 1#32 rfl _ _ _ (window_one d))

theorem window_pay4 {x : IVec S1x1024 32} (hx : Window d 4 x) : Window d 256 (k0_pay4 lane x) :=
  window_step 128 896 rfl (by decide) 128#32 rfl _ _ _ <| window_step 64 960 rfl (by decide) 64#32 rfl _ _ _ <|
    window_step 32 992 rfl (by decide) 32#32 rfl _ _ _ <| window_step 16 1008 rfl (by decide) 16#32 rfl _ _ _ <|
    window_step 8 1016 rfl (by decide) 8#32 rfl _ _ _ <| window_step 4 1020 rfl (by decide) 4#32 rfl _ _ _ hx

theorem window_pay5 {x : IVec S1x1024 32} (hx : Window d 256 x) : Window d 1024 (k0_pay5 lane x) :=
  window_step 512 512 rfl (by decide) 512#32 rfl _ _ _ <| window_step 256 768 rfl (by decide) 256#32 rfl _ _ _ hx

/-- The running counts. -/
theorem counts_at (k : Fin 1024) : (k0_pay5 lane (k0_pay4 lane (k0_pay3 d)) (lix k)).toNat = cz d (k.val + 1) := by
  have h := window_pay5 d (window_pay4 d (window_pay3 d)) k
  have := k.isLt
  rw [show k.val + 1 - 1024 = 0 by omega, cz_zero] at h
  exact h

/-- The count of all. -/
theorem total_at (j : S1x1.Idx) : (k0_pay6 lane (k0_pay4 lane (k0_pay3 d)) j).toNat = cz d 1024 := by
  refine Eq.trans (congrArg BitVec.toNat (extractStridedSlice_apply (s := S1x1024) ![0, 1023] (k0_pay5 lane (k0_pay4 lane (k0_pay3 d))) slices_S1x1024_o0_1023_S1x1 j (lix ⟨1023, by decide⟩) fun a => ?_)) (counts_at d _)
  match a with
  | ⟨0, _⟩ => exact (Nat.lt_one_iff.mp (Fin.isLt (n := 1) _)).symm.trans (Nat.zero_add _).symm
  | ⟨1, _⟩ => exact congrArg (1023 + ·) (Nat.lt_one_iff.mp (Fin.isLt (n := 1) _)).symm

theorem total7_at (j : S1x1.Idx) : (k0_pay7 lane (k0_pay4 lane (k0_pay3 d)) j).toNat = cz d 1024 := by
  show (shapeCast S1x1 (k0_pay6 lane (k0_pay4 lane (k0_pay3 d))) shapeCasts_S1x1_S1x1 j).toNat = _
  rw [shapeCast_self]; exact total_at d j

/-! ## A count by a fold -/

theorem fold_count {I : Type} [DecidableEq I] (s : Finset I) (f : I → BitVec 32) (P : I → Prop) [DecidablePred P]
    (hf : ∀ i, f i = if P i then 1#32 else 0#32) : s.fold IntOp.addi 0#32 f = BitVec.ofNat 32 (s.filter P).card := by
  induction s using Finset.induction with
  | empty => rfl
  | insert a s ha ih =>
    rw [Finset.fold_insert ha, ih, hf, Finset.filter_insert]
    by_cases h : P a
    · rw [if_pos h, if_pos h, Finset.card_insert_of_notMem (fun h' => ha (Finset.mem_filter.mp h').1)]
      show 1#32 + BitVec.ofNat 32 _ = _
      rw [Nat.add_comm, BitVec.ofNat_add]
    · rw [if_neg h, if_neg h]; show 0#32 + _ = _; rw [BitVec.zero_add]

/-- A sum of ones and zeros over a whole array, as a host reduction computes it. -/
theorem reduce_count {s t u : Shape} {axes : List (Fin s.rank)} (x : s.Idx → BitVec 32) (init : u.Idx → BitVec 32) (h : s.ReducesTo axes t) (hu : 0 < u.numel)
    (j : t.Idx) (hj : ∀ i, h.drop i = j) (hi : init (Shape.Idx.first hu) = 0#32) (P : s.Idx → Prop) [DecidablePred P]
    (hx : ∀ i, x i = if P i then 1#32 else 0#32) :
    Host.reduce IntOp.addi x init h hu j = BitVec.ofNat 32 (Finset.univ.filter P).card := by
  rw [Host.reduce_eq_fold, hi, Finset.filter_true_of_mem (fun i _ => hj i)]
  exact fold_count _ x P hx

theorem one_if (a : BitVec 32) : (IntOp.cmpi .eq a 0#32).setWidth 32 = if a = 0#32 then 1#32 else 0#32 := by
  show (BitVec.ofBool (a == 0#32)).setWidth 32 = _
  by_cases h : a = 0#32
  · rw [if_pos h, h]; rfl
  · rw [if_neg h, beq_eq_false_iff_ne.mpr h]; rfl

theorem card_zeros (d : S1x1024.Idx → BitVec 32) : (Finset.univ.filter fun i : S1x1024.Idx => d i = 0#32).card = cz d 1024 := by
  unfold cz
  rw [Nat.count_eq_card_filter_range]
  refine Finset.card_bij (fun i _ => (i 1).val) (fun i hi => ?_) (fun a _ b _ h => ?_) (fun n hn => ?_)
  · refine Finset.mem_filter.mpr ⟨Finset.mem_range.mpr (i 1).isLt, (i 1).isLt, ?_⟩
    have := (Finset.mem_filter.mp hi).2
    rw [lix_eta i] at this; exact this
  · rw [lix_eta a, lix_eta b]; exact congrArg lix (Fin.ext h)
  · obtain ⟨_, h, hz⟩ := Finset.mem_filter.mp hn
    exact ⟨lix ⟨n, h⟩, Finset.mem_filter.mpr ⟨Finset.mem_univ _, hz⟩, rfl⟩

end Cert.Counts

end
-- ==== Proof.Words.lean ====
/-
# The scalars of the exchange

Everything the kernel computes from its count word, in closed form: the offsets of the rows sent and of the rows landed
on, the lengths, the shift of the rows received, and that between 121 and 903 zeros every transfer stays inside its
buffer.
-/
module

public import proofs.«01_k».proof.Proof.Gen.KernelIdeal
public import proofs.«01_k».proof.Proof.Gen.KernelIdeal.Skeleton

@[expose] public section

noncomputable section

namespace Cert.Words

open Cert.KernelIdeal Cert.KernelIdeal.Gen
open Idealize.ShloMosaic

/-- A device's place along the mesh axis `y` the rows travel on. -/
def row (c : Dev nD) : ℕ := c.val % 2

/-- The other device of `c`'s row of the mesh. -/
def peer (c : Dev nD) : Dev nD :=
  ⟨2 * (c.val / 2) + (1 - c.val % 2), by have := c.isLt; revert this; generalize c.val = v; decide +revert⟩

theorem peer_peer (c : Dev nD) : peer (peer c) = c := by revert c; decide
theorem row_peer (c : Dev nD) : row (peer c) = 1 - row c := by revert c; decide
theorem row_lt (c : Dev nD) : row c < 2 := Nat.mod_lt _ (by decide)

/-- The exchange as a permutation of the devices. -/
def swap : Dev nD ≃ Dev nD := ⟨peer, peer, peer_peer, peer_peer⟩

/-- First row (rounded down to a multiple of 8) of the sorted buffer that a device in place `y` with `n` zeros sends. -/
def base (y n : ℕ) : ℕ := if y = 0 then n / 8 * 8 else 0
/-- How many rows (rounded out to multiples of 8) it has to send. -/
def len (y n : ℕ) : ℕ := if y = 0 then 1024 - n / 8 * 8 else (n + 7) / 8 * 8
/-- First row of its `j`-th transfer, relative to `base`. -/
def rel (y n j : ℕ) : ℕ := min (128 * j) (len y n - 128)

/-- How many of the sorted rows a device keeps. -/
def keepLen (c : Dev nD) (w : BitVec 32) : BitVec 32 :=
  let v5 : BitVec 32 := Scalar.remsi (Scalar.divsi (Dev.word c) 1#32) 2#32
  Scalar.select (Scalar.cmpi .eq v5 0#32) w (Scalar.subi 1024#32 w)

/-- The first of the sorted rows a device keeps. -/
def keepBase (c : Dev nD) (w : BitVec 32) : BitVec 32 :=
  let v5 : BitVec 32 := Scalar.remsi (Scalar.divsi (Dev.word c) 1#32) 2#32
  Scalar.muli v5 w

/-- How far down the rows received move to reach their place in the result. -/
def shift (c : Dev nD) (w : BitVec 32) : BitVec 32 :=
  let v5 : BitVec 32 := Scalar.remsi (Scalar.divsi (Dev.word c) 1#32) 2#32
  let v130 : BitVec 32 := Scalar.subi 1024#32 (keepLen c w)
  let v135 : BitVec 32 := Scalar.muli (Scalar.subi 1#32 v5) w
  let v176 : BitVec 32 := Scalar.muli v5 (Scalar.subi 1024#32 v130)
  let v177 : BitVec 32 := Scalar.divsi v176 8#32
  let v182 : BitVec 32 := Scalar.subi (Scalar.extui (Scalar.cmpi .sgt v176 0#32)) (Scalar.extui (Scalar.cmpi .slt v176 0#32))
  let v187 : BitVec 32 := Scalar.subi (Scalar.extui (Scalar.cmpi .sgt 8#32 0#32)) (Scalar.extui (Scalar.cmpi .slt 8#32 0#32))
  let v191 : BitVec 1 := Scalar.andi (Scalar.cmpi .ne v182 v187) (Scalar.cmpi .ne (Scalar.remsi v176 8#32) 0#32)
  let v193 : BitVec 32 := Scalar.select v191 (Scalar.subi v177 1#32) v177
  Scalar.subi v135 (Scalar.subi v176 (Scalar.muli v193 8#32))

/-! ## Decided over every count in range -/

theorem off1_fin : ∀ (c : Dev nD) (n : Fin 783) (j : Fin 4),
    k0_off1 c (BitVec.ofNat 32 (121 + n.val)) (BitVec.ofNat 32 (128 * j.val)) 0 = rel (row c) (121 + n.val) j.val := by
  decide +kernel

theorem off2_fin : ∀ (c : Dev nD) (n : Fin 783) (j : Fin 4),
    k0_off2 c (BitVec.ofNat 32 (121 + n.val)) (BitVec.ofNat 32 (128 * j.val)) 0
      = base (row c) (121 + n.val) + rel (row c) (121 + n.val) j.val := by
  decide +kernel

theorem keepLen_fin : ∀ (c : Dev nD) (n : Fin 783),
    (keepLen c (BitVec.ofNat 32 (121 + n.val))).toNat = if row c = 0 then 121 + n.val else 1024 - (121 + n.val) := by
  decide +kernel

theorem keepBase_fin : ∀ (c : Dev nD) (n : Fin 783),
    (keepBase c (BitVec.ofNat 32 (121 + n.val))).toNat = if row c = 0 then 0 else 121 + n.val := by
  decide +kernel

theorem shift_fin : ∀ (c : Dev nD) (n : Fin 783),
    (shift c (BitVec.ofNat 32 (121 + n.val))).toInt = if row c = 0 then ((121 + n.val : ℕ) : ℤ) else - (((1024 - (121 + n.val)) % 8 : ℕ) : ℤ) := by
  decide +kernel

/-! ## The same of a count word in range -/

section Range

variable (c : Dev nD) {w : BitVec 32} (h1 : 121 ≤ w.toNat) (h2 : w.toNat ≤ 903)
include h1 h2

theorem word_eq : ∃ n : Fin 783, w = BitVec.ofNat 32 (121 + n.val) ∧ w.toNat = 121 + n.val :=
  ⟨⟨w.toNat - 121, by omega⟩, by rw [show 121 + (w.toNat - 121) = w.toNat by omega, BitVec.ofNat_toNat, BitVec.setWidth_eq],
    (show w.toNat = 121 + (w.toNat - 121) by omega)⟩

theorem off1_zero (j : Fin 4) : k0_off1 c w (BitVec.ofNat 32 (128 * j.val)) 0 = rel (row c) w.toNat j.val := by
  obtain ⟨n, hw, hn⟩ := word_eq h1 h2; rw [hn, hw]; exact off1_fin c n j
theorem off2_zero (j : Fin 4) :
    k0_off2 c w (BitVec.ofNat 32 (128 * j.val)) 0 = base (row c) w.toNat + rel (row c) w.toNat j.val := by
  obtain ⟨n, hw, hn⟩ := word_eq h1 h2; rw [hn, hw]; exact off2_fin c n j
theorem keepLen_toNat : (keepLen c w).toNat = if row c = 0 then w.toNat else 1024 - w.toNat := by
  obtain ⟨n, hw, hn⟩ := word_eq h1 h2; rw [hn, hw]; exact keepLen_fin c n
theorem keepBase_toNat : (keepBase c w).toNat = if row c = 0 then 0 else w.toNat := by
  obtain ⟨n, hw, hn⟩ := word_eq h1 h2; rw [hn, hw]; exact keepBase_fin c n
theorem shift_toInt : (shift c w).toInt = if row c = 0 then (w.toNat : ℤ) else - (((1024 - w.toNat) % 8 : ℕ) : ℤ) := by
  obtain ⟨n, hw, hn⟩ := word_eq h1 h2; rw [hn, hw]; exact shift_fin c n

omit h1 h2 in
theorem off1_one (lit : BitVec 32) : k0_off1 c w lit 1 = 0 := rfl
omit h1 h2 in
theorem off2_one (lit : BitVec 32) : k0_off2 c w lit 1 = 0 := rfl

/-! ## The bounds -/

omit h1 h2 in
theorem base_le (y n : ℕ) (h1 : 121 ≤ n) (h2 : n ≤ 903) (hy : y < 2) : base y n + len y n ≤ 1024 ∧ 128 ≤ len y n ∧ base y n % 8 = 0 ∧ len y n % 8 = 0 := by
  unfold base len
  split <;> omega

omit h1 h2 in
theorem rel_bounds (y n j : ℕ) (h1 : 121 ≤ n) (h2 : n ≤ 903) (hy : y < 2) :
    base y n + rel y n j + 128 ≤ 1024 ∧ rel y n j % 8 = 0 ∧ rel y n j + 128 ≤ len y n ∧ rel y n j ≤ 128 * j := by
  have := base_le y n h1 h2 hy
  unfold rel
  omega

/-- Between 121 and 903 zeros the kernel's side condition holds: every transfer stays inside its buffer, in whole words. -/
theorem chk1 : k0_chk1 c w := by
  have hb := fun j : Fin 4 => rel_bounds (row c) w.toNat j.val h1 h2 (row_lt c)
  have hl := base_le (row c) w.toNat h1 h2 (row_lt c)
  refine ⟨fun j a => ?_, fun j a => ?_, fun j hin => ?_, fun j hin => ?_⟩
  · have := hb j
    match a with
    | ⟨0, _⟩ => show k0_off1 c w _ 0 + 128 ≤ 1024; rw [off1_zero c h1 h2 j]; omega
    | ⟨1, _⟩ => exact (Nat.zero_add _).le
  · have := hb j
    match a with
    | ⟨0, _⟩ => show k0_off2 c w _ 0 + 128 ≤ 1024; rw [off2_zero c h1 h2 j]; omega
    | ⟨1, _⟩ => exact (Nat.zero_add _).le
  · have := hb j
    refine .inl (.inr ⟨by decide, rfl, .inl ⟨?_, ?_⟩⟩)
    · show (2 : ℕ) ∣ k0_off2 c w _ 0
      rw [off2_zero c h1 h2 j]; omega
    · show (2 : ℕ) ∣ 128
      decide
  · have := hb j
    refine .inl (.inr ⟨by decide, rfl, .inl ⟨?_, ?_⟩⟩)
    · show (2 : ℕ) ∣ k0_off1 c w _ 0
      rw [off1_zero c h1 h2 j]; omega
    · show (2 : ℕ) ∣ 128
      decide

end Range

end Cert.Words

end
-- ==== Proof.Common.lean ====
/-
# The exchange's protocol

Every device meets ten semaphores: the runtime's barrier, the one of its local copy of the count, and one per transfer
for the four transfers it sends and the four it receives. Each is waited for once, by its own device, and credited once:

* `bar`: the other device of the row signals one unit once it has cleared its landing buffer, and hands that buffer over
  in write mode: every element still zero, to become what `land` says;
* `cpy`: the local copy hands back both counts;
* `send j`: the transfer hands the rows sent back to the sender, a quarter share of the sorted buffer;
* `recv j`: the transfer from the other device hands a quarter share of the landing buffer in write mode, the rows of
  that transfer marked as written.

The transfers of one device may write the same rows of the landing buffer twice, with the same values: hence write mode,
where the shares of the four transfers overlap. A device reads rows `128 j … 128 j + 127` of its landing buffer after the
wait for `recv j`: a row there is marked by that transfer or is to stay zero.
-/
module

public import proofs.«01_k».proof.Proof.Words
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.WriteMode
public import Idealize.ShloMosaic.Lib.Tactic

@[expose] public section

noncomputable section

namespace Cert.Exchange

open Cert.KernelIdeal Cert.KernelIdeal.Gen Cert.Words
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's own algebra: the pipeline library's cells, the protocol's cells, and write mode. -/
abbrev UU (F : FTy → Type) : Type := UR sig nD τ × (UR sig nD τ × WmRA nD τ sig (Elt F))

local notation "𝕄" => MT nD τ sig Unit (Elt F) ℕ (UU F) ℕ

abbrev EP : Emb (UR sig nD τ) (MT nD τ sig Unit (Elt F) ℕ (UU F) ℕ) := embL
abbrev ER : Emb (UR sig nD τ) (MT nD τ sig Unit (Elt F) ℕ (UU F) ℕ) :=
  (Emb.inl : Emb (UR sig nD τ) (UR sig nD τ × WmRA nD τ sig (Elt F))).trans embR
abbrev EW : UEmb (WmRA nD τ sig (Elt F)) (UU F) :=
  (UEmb.inr : UEmb (WmRA nD τ sig (Elt F)) (UR sig nD τ × WmRA nD τ sig (Elt F))).trans UEmb.inr

variable (m : (ℓ : Loc nD τ sig) → Buf (Elt F) ℓ) (ρ : Dev nD → PrngReg)

def s₀ : MemSt nD τ sig (Elt F) := ⟨m, fun _ => 0, ρ⟩

/-! ## The semaphores -/

/-- The ten semaphores of a device. -/
inductive Kd | bar | cpy | send (j : Fin 4) | recv (j : Fin 4)
  deriving DecidableEq

def kds : List Kd :=
  [.bar, .cpy, .send 0, .send 1, .send 2, .send 3, .recv 0, .recv 1, .recv 2, .recv 3]

theorem mem_kds (k : Kd) : k ∈ kds := by
  cases k with
  | bar => decide
  | cpy => decide
  | send j => revert j; decide
  | recv j => revert j; decide

instance : Fintype Kd := ⟨kds.toFinset, fun k => List.mem_toFinset.mpr (mem_kds k)⟩

abbrev barS : Sem sig := (SemArray.scalar (sig.barrier 0 rfl) : Sems sig S_).sem
abbrev cpyS : DmaSem sig := cc0_scratch4.sem

def sendS : Fin 4 → DmaSem sig
  | 0 => ((cc0_scratch5.slice (Rect.unit (s := S4) ![0] S1.size inb_S4_S1_0)).squeeze S_ squeezes_S1_S_).sem
  | 1 => ((cc0_scratch5.slice (Rect.unit (s := S4) ![1] S1.size inb_S4_S1_1)).squeeze S_ squeezes_S1_S_).sem
  | 2 => ((cc0_scratch5.slice (Rect.unit (s := S4) ![2] S1.size inb_S4_S1_2)).squeeze S_ squeezes_S1_S_).sem
  | 3 => ((cc0_scratch5.slice (Rect.unit (s := S4) ![3] S1.size inb_S4_S1_3)).squeeze S_ squeezes_S1_S_).sem

def recvS : Fin 4 → DmaSem sig
  | 0 => ((cc0_scratch6.slice (Rect.unit (s := S4) ![0] S1.size inb_S4_S1_0)).squeeze S_ squeezes_S1_S_).sem
  | 1 => ((cc0_scratch6.slice (Rect.unit (s := S4) ![1] S1.size inb_S4_S1_1)).squeeze S_ squeezes_S1_S_).sem
  | 2 => ((cc0_scratch6.slice (Rect.unit (s := S4) ![2] S1.size inb_S4_S1_2)).squeeze S_ squeezes_S1_S_).sem
  | 3 => ((cc0_scratch6.slice (Rect.unit (s := S4) ![3] S1.size inb_S4_S1_3)).squeeze S_ squeezes_S1_S_).sem

def csem : Kd → SemLoc sig
  | .bar => .reg barS
  | .cpy => .dma cpyS
  | .send j => .dma (sendS j)
  | .recv j => .dma (recvS j)

theorem csem_inj : ∀ k k' : Kd, csem k = csem k' → k = k' := by decide

abbrev cell (c : Dev nD) (k : Kd) : GSem nD τ sig := ((c : Thread nD τ), csem k)

theorem cell_eq_iff {a b : Dev nD} {k k' : Kd} : cell a k = cell b k' ↔ a = b ∧ k = k' :=
  ⟨fun h => ⟨Fin.ext (congrArg (fun g : GSem nD τ sig => g.1.1.val) h), csem_inj _ _ (congrArg Prod.snd h)⟩,
    fun h => by rw [h.1, h.2]⟩

/-- Which of the ten a semaphore is. -/
def kindOf (s : SemLoc sig) : Option Kd := kds.find? fun k => csem k = s

theorem kindOf_csem : ∀ k : Kd, kindOf (csem k) = some k := by decide

/-! ## The buffers -/

abbrev xM : Memref sig .tc .vmem S1024x512 .bf16 := Memref.whole cc0_stg0_0
abbrev dM : Memref sig .tc .vmem S1x1024 .i32 := Memref.whole cc0_stg1_0
abbrev oM : Memref sig .tc .vmem S1024x512 .bf16 := Memref.whole cc0_stg2_0
abbrev sM : Memref sig .tc .vmem S1024x512 .bf16 := Memref.whole cc0_scratch0
abbrev rM : Memref sig .tc .vmem S1024x512 .bf16 := Memref.whole cc0_scratch1
abbrev vM : Memref sig .tc .vmem S1x1 .i32 := Memref.whole cc0_scratch2
abbrev wM : Memref sig .tc .smem S1x1 .i32 := Memref.whole cc0_scratch3

/-- Credit of one transfer of 128 rows, and of the copy of the count. -/
abbrev N : ℕ := (rM.slice (Rect.unit (s := S1024x512) ![0, 0] S128x512.size inb_S1024x512_S128x512_0_0) (fun _ => rfl)).view.dmaCredit
abbrev NC : ℕ := wM.view.dmaCredit
theorem N_pos : 0 < N := View.dmaCredit_pos _ (by decide)
theorem NC_pos : 0 < NC := View.dmaCredit_pos _ (by decide)

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def dstg (c : Dev nD) : (cc0_stg1_0 : Ref sig .tc).ty.Contents (Elt F) :=
  (win0_1.blk (0 : Fin 1)).view.read (Elt F) ((s₀ m ρ).mem ((c : Thread nD τ).loc main_arg1))

/-- The column numbers. -/
abbrev lane : IVec S1x1024 32 := iota .tc S1x1024 32 [1] iota_S1x1024_d1_w32

/-- The running counts of zeros. -/
def inc (c : Dev nD) : IVec S1x1024 32 := k0_pay4 lane (k0_pay3 (F := F) (dstg m ρ c))
/-- The number of zeros, as the one-element array the kernel stores it in. -/
def cnt (c : Dev nD) : (cc0_scratch2 : Ref sig .tc).ty.Contents (Elt F) := k0_pay7 lane (inc m ρ c)
/-- The same as a word. -/
def word (c : Dev nD) : BitVec 32 := (cnt m ρ c : S1x1.Idx → BitVec 32) (fun a => ⟨0, by revert a; decide⟩)
/-- The rows sorted by destination, as the kernel stores them. -/
def sb (c : Dev nD) : (cc0_scratch0 : Ref sig .tc).ty.Contents (Elt F) :=
  k0_pay9 (k0_pay2 (F := F) (dstg m ρ c)) lane (inc m ρ c) (xstg m ρ c)

/-- A cleared buffer. -/
def zeros : (cc0_scratch1 : Ref sig .tc).ty.Contents (Elt F) := k0_pay1 (F := F)

/-- The index of row `r`, column `k` of a 1024 × 512 array. -/
def ix (r : Fin 1024) (k : Fin 512) : S1024x512.Idx
  | ⟨0, _⟩ => r
  | ⟨1, _⟩ => k

/-- What a device's landing buffer comes to hold: the rows the other device sends, and zeros below them. -/
def land (c : Dev nD) : (cc0_scratch1 : Ref sig .tc).ty.Contents (Elt F) := fun (i : S1024x512.Idx) =>
  let n := (word m ρ (peer c)).toNat
  let y := row (peer c)
  if (i 0).val < 512 ∧ (i 0).val < len y n then
    (sb m ρ (peer c) : S1024x512.Idx → Elt F .bf16) (ix ⟨(base y n + (i 0).val) % 1024, Nat.mod_lt _ (by decide)⟩ (i 1))
  else (zeros (F := F) : S1024x512.Idx → Elt F .bf16) i

/-! ## What moves -/

/-- The count words are in range on every device: what the precondition gives. -/
abbrev InRange : Prop := ∀ c : Dev nD, 121 ≤ (word m ρ c).toNat ∧ (word m ρ c).toNat ≤ 903

theorem InRange.chk {m : (ℓ : Loc nD τ sig) → Buf (Elt F) ℓ} {ρ : Dev nD → PrngReg} (hR : InRange m ρ) (c : Dev nD) :
    k0_chk1 c (word m ρ c) := chk1 c (hR c).1 (hR c).2

/-- The rows of the sorted buffer the `j`-th transfer of device `c` reads, -/
def srcM (hR : InRange m ρ) (c : Dev nD) (j : Fin 4) : Memref sig .tc .vmem S128x512 .bf16 :=
  sM.slice (Rect.unit (s := S1024x512) (k0_off2 c (word m ρ c) (BitVec.ofNat 32 (128 * j.val))) S128x512.size
    (k0_off2_inb c (word m ρ c) (hR.chk c) j)) (fun _ => rfl)
/-- and the rows of the other device's landing buffer it writes. -/
def dstM (hR : InRange m ρ) (c : Dev nD) (j : Fin 4) : Memref sig .tc .vmem S128x512 .bf16 :=
  rM.slice (Rect.unit (s := S1024x512) (k0_off1 c (word m ρ c) (BitVec.ofNat 32 (128 * j.val))) S128x512.size
    (k0_off1_inb c (word m ρ c) (hR.chk c) j)) (fun _ => rfl)

/-- Each transfer's share of a buffer all four use: a quarter. -/
def qt : Fin 4 → PosShare TreeShare
  | 0 => fullShare.left.left
  | 1 => fullShare.left.right
  | 2 => fullShare.right.left
  | 3 => fullShare.right.right

abbrev sLoc (c : Dev nD) : Loc nD τ sig := (c : Thread nD τ).loc cc0_scratch0
abbrev rLoc (c : Dev nD) : Loc nD τ sig := (c : Thread nD τ).loc cc0_scratch1

/-- The targets of a device's landing buffer. -/
abbrev tgt (c : Dev nD) : Tgt (Elt F) (rLoc c) := fun i => some (land m ρ c i)

/-- A share of a device's landing buffer in write mode, the elements `W` known to be written. -/
def wmPts (c : Dev nD) (q : PosShare TreeShare) (W : Finset (Idx (rLoc c))) : sProp 𝕄 :=
  willBeTo EW (rLoc c) Finset.univ q (zeros (F := F)) (tgt m ρ c) W

/-- The elements the `j`-th transfer of device `c` reads, -/
def srcSet (hR : InRange m ρ) (c : Dev nD) (j : Fin 4) : Finset (Idx (sLoc c)) := (srcM m ρ hR c j).view.set
/-- and those it writes on device `d`. -/
def dstSet (hR : InRange m ρ) (d c : Dev nD) (j : Fin 4) : Finset (Idx (rLoc d)) := (dstM m ρ hR c j).view.set

def sendPay (hR : InRange m ρ) (c : Dev nD) (j : Fin 4) : sProp 𝕄 := sLoc c ↦[srcSet m ρ hR c j]{qt j} sb m ρ c
def recvPay (hR : InRange m ρ) (c : Dev nD) (j : Fin 4) : sProp 𝕄 := wmPts m ρ c (qt j) (dstSet m ρ hR c (peer c) j)
def barPay (c : Dev nD) : sProp 𝕄 := wmPts m ρ (peer c) fullShare ∅
def cpyPay (c : Dev nD) : sProp 𝕄 :=
  iprop((((c : Thread nD τ).loc cc0_scratch3) ↦{fullShare} cnt m ρ c) ∗ ((c : Thread nD τ).loc cc0_scratch2) ↦{fullShare} cnt m ρ c)

def pay (hR : InRange m ρ) (c : Dev nD) : Kd → sProp 𝕄
  | .bar => barPay m ρ c
  | .cpy => cpyPay m ρ c
  | .send j => sendPay m ρ hR c j
  | .recv j => recvPay m ρ hR c j

def amt : Kd → ℕ
  | .bar => 1
  | .cpy => NC
  | .send _ => N
  | .recv _ => N

theorem amt_pos : ∀ k, 0 < amt k
  | .bar => Nat.one_pos
  | .cpy => NC_pos
  | .send _ => N_pos
  | .recv _ => N_pos

omit [FloatOps F] in
instance cpy_storable (c : Dev nD) (f : Buf (Elt F) ((c : Thread nD τ).loc cc0_scratch3)) (g : Buf (Elt F) ((c : Thread nD τ).loc cc0_scratch2)) :
    BI.Storable (upEmb : UEmb _ 𝕄) iprop((((c : Thread nD τ).loc cc0_scratch3) ↦{fullShare} f) ∗ ((c : Thread nD τ).loc cc0_scratch2) ↦{fullShare} g) := by
  infer_instance

instance pay_storable (hR : InRange m ρ) (c : Dev nD) (k : Kd) : BI.Storable (upEmb : UEmb _ 𝕄) (pay m ρ hR c k) := by
  cases k with
  | bar => show BI.Storable upEmb (barPay m ρ c); unfold barPay wmPts; infer_instance
  | cpy => show BI.Storable upEmb (cpyPay m ρ c); unfold cpyPay; infer_instance
  | send j => show BI.Storable upEmb (sendPay m ρ hR c j); unfold sendPay; infer_instance
  | recv j => show BI.Storable upEmb (recvPay m ρ hR c j); unfold recvPay wmPts; infer_instance

/-! ## The schedule -/

def Rd (hR : InRange m ρ) : Rounds.Schedule (GSem nD τ sig) Unit 𝕄 where
  duties g r := if r = 0 ∧ g.1.2 = .tc ∧ (kindOf g.2).isSome then {()} else ∅
  unitless _ := False
  amount g _ _ := (kindOf g.2).elim 1 amt
  payload g _ _ := (kindOf g.2).elim iprop(emp) (pay m ρ hR g.1.1)
  amount_pos g _ _ _ := by
    cases h : kindOf g.2 with
    | none => exact Nat.one_pos
    | some k => exact amt_pos k

instance Rd_payload_storable (hR : InRange m ρ) (g : GSem nD τ sig) (r : ℕ) (d : Unit) :
    BI.Storable (upEmb : UEmb _ 𝕄) ((Rd m ρ hR).payload g r d) := by
  show BI.Storable upEmb ((kindOf g.2).elim iprop(emp) (pay m ρ hR g.1.1))
  cases kindOf g.2 with
  | none => exact (inferInstance : BI.Storable (upEmb : UEmb _ 𝕄) iprop(emp))
  | some k => exact pay_storable m ρ hR g.1.1 k

section Sched
variable (hR : InRange m ρ) (c : Dev nD) (k : Kd)

theorem duties_cell : (Rd m ρ hR).duties (cell c k) 0 = {()} := by
  dsimp only [Rd]; exact if_pos ⟨rfl, rfl, by rw [kindOf_csem]; rfl⟩
theorem mem_duties : () ∈ (Rd m ρ hR).duties (cell c k) 0 := by rw [duties_cell]; exact Finset.mem_singleton_self _
theorem duties_later (g : GSem nD τ sig) : ∀ r, 1 ≤ r → (Rd m ρ hR).duties g r = ∅ :=
  fun r hr => by dsimp only [Rd]; exact if_neg fun h => by omega
theorem amount_cell (u : Unit) : (Rd m ρ hR).amount (cell c k) 0 u = amt k := by
  dsimp only [Rd]; rw [kindOf_csem]; rfl
theorem payload_cell (u : Unit) : (Rd m ρ hR).payload (cell c k) 0 u = pay m ρ hR c k := by
  dsimp only [Rd]; rw [kindOf_csem]; rfl
theorem expect_cell : (Rd m ρ hR).expect (cell c k) 0 = amt k := by
  unfold Schedule.expect Schedule.amountOf; rw [duties_cell, Finset.sum_singleton, amount_cell]
theorem rest_cell : bigSep ((Rd m ρ hR).duties (cell c k) 0 \ ∅) (fun u => (Rd m ρ hR).payload (cell c k) 0 u) = pay m ρ hR c k := by
  rw [Finset.sdiff_empty, duties_cell, bigSep_singleton, payload_cell]
end Sched

/-! ## What each device owes at launch; the levels -/

/-- What device `c` owes the `j`-th receive semaphore of the other device. -/
abbrev owe (c : Dev nD) (j : Fin 4) : CellTallies nD τ sig Unit := tallyAt (cell (peer c) (.recv j)) () N
/-- Owed between the barrier signal and the first transfer. -/
def O₁ (c : Dev nD) : CellTallies nD τ sig Unit := 0 + owe c 3 + owe c 2 + owe c 1 + owe c 0
/-- Owed at launch. -/
def O₀ (c : Dev nD) : CellTallies nD τ sig Unit := O₁ c + tallyAt (cell (peer c) .bar) () 1

def L (g : GSem nD τ sig) : Finset Unit := if g.1.2 = .tc then {()} else ∅
def klv : Kd → ℕ
  | .bar => 1
  | .recv _ => 2
  | _ => 0
def lv (g : GSem nD τ sig) (_ : Unit) : ℕ := (kindOf g.2).elim 0 klv
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (cell c k) u = klv k := by unfold lv; rw [kindOf_csem]; rfl

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem O₁_pos {c : Dev nD} {g : GSem nD τ sig} {u : Unit} (h : 0 < O₁ c g u) : ∃ j, g = cell (peer c) (.recv j) := by
  unfold O₁ at h
  simp only [Pi.add_apply, Finsupp.add_apply, Pi.zero_apply, Finsupp.zero_apply, Nat.zero_add] at h
  by_contra hn
  have hz (j : Fin 4) : owe c j g u = 0 := Nat.eq_zero_of_not_pos fun h' => hn ⟨j, tally_pos h'⟩
  simp only [owe] at hz h
  rw [hz 0, hz 1, hz 2, hz 3] at h
  exact Nat.lt_irrefl 0 h

theorem O₀_pos {c : Dev nD} {g : GSem nD τ sig} {u : Unit} (h : 0 < O₀ c g u) :
    (∃ j, g = cell (peer c) (.recv j)) ∨ g = cell (peer c) .bar := by
  unfold O₀ at h
  rw [Pi.add_apply, Finsupp.add_apply] at h
  rcases Nat.eq_zero_or_pos (O₁ c g u) with h0 | h0
  · rw [h0, Nat.zero_add] at h; exact .inr (tally_pos h)
  · exact .inl (O₁_pos h0)

omit [FloatOps F] in
/-- A device may wait for a semaphore below everything it owes. -/
theorem mayWait_of (c : Dev nD) (sm : SemLoc sig) (O : CellTallies nD τ sig Unit) (b : ℕ) (hlow : lv ((c : Thread nD τ), sm) () ≤ b)
    (hO : ∀ g u, 0 < O g u → ∃ (c' : Dev nD) (k : Kd), g = cell c' k ∧ b < klv k) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨c', k, rfl, _⟩ := hO g u hg; exact Finset.mem_singleton_self _)
    (fun p hp => by rw [Finset.mem_singleton.mp hp]; exact hlow)
    (fun g u hg => by obtain ⟨c', k, rfl, hk⟩ := hO g u hg; rw [lv_cell]; exact hk)

omit [FloatOps F] in
theorem mayWait_bar (c : Dev nD) : (levAts L lv : sProp 𝕄) ⊢ MayWait (c : Thread nD τ) (csem .bar) () (O₁ c) :=
  mayWait_of c _ _ 1 (by rw [lv_cell]; exact le_refl 1) fun g u hg => by
    obtain ⟨j, rfl⟩ := O₁_pos hg; exact ⟨_, _, rfl, by simp [klv]⟩

omit [FloatOps F] in
theorem mayWait_low (c : Dev nD) (sm : SemLoc sig) (hs : lv ((c : Thread nD τ), sm) () = 0) (O : CellTallies nD τ sig Unit)
    (hO : O = O₀ c ∨ O = O₁ c ∨ O = 0) : (levAts L lv : sProp 𝕄) ⊢ MayWait (c : Thread nD τ) sm () O := by
  rcases hO with rfl | rfl | rfl
  · exact mayWait_of c _ _ 0 hs.le fun g u hg => by
      rcases O₀_pos hg with ⟨j, rfl⟩ | rfl
      · exact ⟨_, _, rfl, by simp [klv]⟩
      · exact ⟨_, _, rfl, by simp [klv]⟩
  · exact mayWait_of c _ _ 0 hs.le fun g u hg => by obtain ⟨j, rfl⟩ := O₁_pos hg; exact ⟨_, _, rfl, by simp [klv]⟩
  · rw [MayWait_zero]; iintro -; iempintro

end Cert.Exchange

end
-- ==== Proof.Moves.lean ====
/-
# What the transfers move

A transfer writes what its target admits, and the rows a device reads after its `j`-th wait are final.
-/
module

public import proofs.«01_k».proof.Proof.Common
public import Idealize.ShloMosaic.Lib.Pipeline.ValueKit.Geometry

@[expose] public section

noncomputable section

namespace Cert.Exchange

open Cert.KernelIdeal Cert.KernelIdeal.Gen Cert.Words
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ) (ρ : Dev nD → PrngReg)
variable (hR : InRange m ρ) (c : Dev nD) (j : Fin 4)

theorem ix_eta (i : S1024x512.Idx) : ix (i 0) (i 1) = i := by
  funext a; match a with
  | ⟨0, _⟩ => rfl
  | ⟨1, _⟩ => rfl

/-- Where the `j`-th transfer reads, and where it writes, the element `x` of what it moves. -/
abbrev srcIx (x : S128x512.Idx) : S1024x512.Idx := (srcM m ρ hR c j).view.emb x
abbrev dstIx (x : S128x512.Idx) : S1024x512.Idx := (dstM m ρ hR c j).view.emb x

theorem src_row (x : S128x512.Idx) :
    (srcIx m ρ hR c j x 0).val = base (row c) (word m ρ c).toNat + rel (row c) (word m ρ c).toNat j.val + (x 0).val := by
  have h := ValueKit.view_emb_slice_whole_unit_val cc0_scratch0 (k0_off2 c (word m ρ c) (BitVec.ofNat 32 (128 * j.val))) S128x512.size
    (k0_off2_inb c (word m ρ c) (hR.chk c) j) x (0 : Fin 2)
  rw [off2_zero c (hR c).1 (hR c).2 j] at h
  exact h

theorem src_col (x : S128x512.Idx) : srcIx m ρ hR c j x 1 = x 1 := by
  have h := ValueKit.view_emb_slice_whole_unit_val cc0_scratch0 (k0_off2 c (word m ρ c) (BitVec.ofNat 32 (128 * j.val))) S128x512.size
    (k0_off2_inb c (word m ρ c) (hR.chk c) j) x (1 : Fin 2)
  rw [off2_one, Nat.zero_add] at h
  exact Fin.ext h

theorem dst_row (x : S128x512.Idx) :
    (dstIx m ρ hR c j x 0).val = rel (row c) (word m ρ c).toNat j.val + (x 0).val := by
  have h := ValueKit.view_emb_slice_whole_unit_val cc0_scratch1 (k0_off1 c (word m ρ c) (BitVec.ofNat 32 (128 * j.val))) S128x512.size
    (k0_off1_inb c (word m ρ c) (hR.chk c) j) x (0 : Fin 2)
  rw [off1_zero c (hR c).1 (hR c).2 j] at h
  exact h

theorem dst_col (x : S128x512.Idx) : dstIx m ρ hR c j x 1 = x 1 := by
  have h := ValueKit.view_emb_slice_whole_unit_val cc0_scratch1 (k0_off1 c (word m ρ c) (BitVec.ofNat 32 (128 * j.val))) S128x512.size
    (k0_off1_inb c (word m ρ c) (hR.chk c) j) x (1 : Fin 2)
  rw [off1_one, Nat.zero_add] at h
  exact Fin.ext h

/-- The rows of the `j`-th transfer land where the target says the sorted rows go. -/
theorem send_admitted : (dstM m ρ hR c j).view.Admitted (Elt F) (tgt m ρ (peer c))
    ((srcM m ρ hR c j).view.read (Elt F) (sb m ρ c)) Finset.univ := by
  refine (View.admitted_some_iff (v := (dstM m ρ hR c j).view) (g := land m ρ (peer c))).mpr ?_
  intro x _
  show sb m ρ c (srcIx m ρ hR c j x) = land m ρ (peer c) (dstIx m ρ hR c j x)
  have hb := rel_bounds (row c) (word m ρ c).toNat j.val (hR c).1 (hR c).2 (row_lt c)
  have hx : (x 0).val < 128 := (x 0).isLt
  have hj : j.val < 4 := j.isLt
  have hd := dst_row m ρ hR c j x
  unfold land
  simp only [peer_peer]
  rw [if_pos (by rw [hd]; omega)]
  congr 1
  rw [← ix_eta (srcIx m ρ hR c j x)]
  congr 1
  · apply Fin.ext
    rw [src_row m ρ hR c j x]
    show _ = (base (row c) (word m ρ c).toNat + (dstIx m ρ hR c j x 0).val) % 1024
    rw [hd, Nat.mod_eq_of_lt (by omega)]
    omega

theorem mem_dstSet (d : Dev nD) (i : S1024x512.Idx) : i ∈ dstSet m ρ hR d c j ↔
    rel (row c) (word m ρ c).toNat j.val ≤ (i 0).val ∧ (i 0).val < rel (row c) (word m ρ c).toNat j.val + 128 := by
  have hm := ValueKit.mem_set_slice_whole_iff cc0_scratch1 (Rect.unit (s := S1024x512)
    (k0_off1 c (word m ρ c) (BitVec.ofNat 32 (128 * j.val))) S128x512.size (k0_off1_inb c (word m ρ c) (hR.chk c) j)) i Rect.mem_set_unit
  refine Iff.trans hm ?_
  constructor
  · intro h
    have h0 := h (0 : Fin 2)
    rw [off1_zero c (hR c).1 (hR c).2 j] at h0
    exact h0
  · intro h a
    match a with
    | ⟨0, _⟩ =>
      show k0_off1 c (word m ρ c) (BitVec.ofNat 32 (128 * j.val)) 0 ≤ (i 0).val ∧ (i 0).val < k0_off1 c (word m ρ c) (BitVec.ofNat 32 (128 * j.val)) 0 + 128
      rw [off1_zero c (hR c).1 (hR c).2 j]; exact h
    | ⟨1, _⟩ =>
      show k0_off1 c (word m ρ c) (BitVec.ofNat 32 (128 * j.val)) 1 ≤ (i 1).val ∧ (i 1).val < k0_off1 c (word m ρ c) (BitVec.ofNat 32 (128 * j.val)) 1 + 512
      rw [off1_one]; exact ⟨Nat.zero_le _, by have : (i 1).val < 512 := (i 1).isLt; omega⟩

/-- A row of the `j`-th block that the `j`-th transfer does not write is to stay zero. -/
theorem land_unmarked (i : S1024x512.Idx) (h1 : 128 * j.val ≤ (i 0).val) (h2 : (i 0).val < 128 * j.val + 128)
    (hi : i ∉ dstSet m ρ hR c (peer c) j) : land m ρ c i = zeros (F := F) i := by
  rw [mem_dstSet] at hi
  have hb := rel_bounds (row (peer c)) (word m ρ (peer c)).toNat j.val (hR (peer c)).1 (hR (peer c)).2 (row_lt (peer c))
  unfold land
  refine if_neg fun h => hi ?_
  have hr : rel (row (peer c)) (word m ρ (peer c)).toNat j.val = min (128 * j.val) (len (row (peer c)) (word m ρ (peer c)).toNat - 128) := rfl
  obtain ⟨_, hl⟩ := h
  change (i 0).val < len (row (peer c)) (word m ρ (peer c)).toNat at hl
  omega

end Cert.Exchange

end
-- ==== Proof.Steps.lean ====
/-
# The steps of a device's run that meet a semaphore

Each kind of step is stated once, at any of the ten semaphores or any of the four transfers. `shared` holds what every
device may use any number of times: the invariants of all semaphores, that each is at its only round, the levels, and
the write-mode invariant.
-/
module

public import proofs.«01_k».proof.Proof.Moves

@[expose] public section

noncomputable section

namespace Cert.Exchange

open Cert.KernelIdeal Cert.KernelIdeal.Gen Cert.Words
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ) (ρ : Dev nD → PrngReg)
variable (hR : InRange m ρ) (K : Dev nD × Kd → ℕ) (ιw : ℕ)

/-- What every device may use at will. -/
def shared : sProp 𝕄 :=
  iprop((bigSep Finset.univ fun ck : Dev nD × Kd => cellInv ER (Rd m ρ hR) (K ck) (cell ck.1 ck.2))
    ∗ (bigSep Finset.univ fun ck : Dev nD × Kd => reached ER (cell ck.1 ck.2) 0)
    ∗ levAts L lv ∗ wmInv EW ιw)

instance shared_persistent : BI.Persistent (shared m ρ hR K ιw) := by unfold shared; infer_instance

abbrev 𝒱₀ : Variants := Variants.none

theorem inv_at (c : Dev nD) (k : Kd) : shared m ρ hR K ιw ⊢ cellInv ER (Rd m ρ hR) (K (c, k)) (cell c k) := by
  unfold shared
  iintro ⟨#H, -⟩
  have h : (bigSep Finset.univ fun ck : Dev nD × Kd => (cellInv ER (Rd m ρ hR) (K ck) (cell ck.1 ck.2) : sProp 𝕄))
    ⊢ cellInv ER (Rd m ρ hR) (K (c, k)) (cell c k) := bigSep_elim (Finset.mem_univ (c, k))
  iapply h; iexact H

theorem reached_at (c : Dev nD) (k : Kd) : shared m ρ hR K ιw ⊢ reached ER (cell c k) 0 := by
  unfold shared
  iintro ⟨-, #H, -⟩
  have h : (bigSep Finset.univ fun ck : Dev nD × Kd => (reached ER (cell ck.1 ck.2) 0 : sProp 𝕄)) ⊢ reached ER (cell c k) 0 :=
    bigSep_elim (Finset.mem_univ (c, k))
  iapply h; iexact H

theorem lev_at : shared m ρ hR K ιw ⊢ levAts L lv := by unfold shared; iintro ⟨-, -, #H, -⟩; iexact H
theorem wm_at : shared m ρ hR K ιw ⊢ wmInv EW ιw := by unfold shared; iintro ⟨-, -, -, #H⟩; iexact H

variable (c : Dev nD) {Q : PUnit.{1} → sProp (MT nD τ sig Unit (Elt F) ℕ (UU F) ℕ)}

/-- A wait on one's own semaphore for all of its only round: the payload comes back. -/
theorem wp_wait_cell (kd : Kd) {w : TpuEff nD τ sig (Elt F) Λ₀ .tc PUnit} {k : PUnit → Prog (TpuEff nD τ sig (Elt F) Λ₀ .tc) PUnit} {k' : ℕ}
    (hw : ∀ K : PUnit → sProp 𝕄, wpE (defs₀ (F := F)) 𝒱₀ (c : Thread nD τ) none Set.univ w K = waitSpec (c : Thread nD τ) Set.univ (csem kd) k' K)
    (hk : k' = amt kd) (O : CellTallies nD τ sig Unit) (W : Waits sig Unit)
    (hO : (levAts L lv : sProp 𝕄) ⊢ MayWait (c : Thread nD τ) (csem kd) () O) :
    iprop(shared m ρ hR K ιw ∗ cred (tallyAt (cell c kd) () (amt kd)) ∗ owes (c : Thread nD τ) O W ∗ atPos ER (cell c kd) 0 ∅ 0)
      ⊢ iprop(((owes (c : Thread nD τ) O (insert (csem kd, ()) W) ∗ atPos ER (cell c kd) 1 ∅ 0 ∗ pay m ρ hR c kd)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk
  iintro ⟨#HS, Hcr, HO, Hat⟩ Hk
  iapply (Rounds.wp_wait_rest_token 𝒱₀ ER (Rd m ρ hR) (c : Thread nD τ) none (κ := K (c, kd)) (sm := csem kd) (k' := amt kd)
      hw (Set.mem_univ _) () (O := O) (W := W) (R := 0) (m := 0) (T := ∅)
      (by rw [Nat.zero_add]; exact (expect_cell m ρ hR c kd).symm)) $$ [Hcr HO Hat]
  · isplitr; · iapply (inv_at m ρ hR K ιw c kd); iexact HS
    isplitl [Hcr]; · iexact Hcr
    isplitl [HO]; · iexact HO
    isplitr; · iapply hO; iapply (lev_at m ρ hR K ιw); iexact HS
    iexact Hat
  iintro ⟨HO, Hat, -, Hpay⟩
  ihave Hp := (Entails.of_eq (rest_cell m ρ hR c kd)) $$ Hpay
  iapply Hk
  isplitl [HO]; · iexact HO
  isplitl [Hat]; · iexact Hat
  iexact Hp

/-- A semaphore past its only round is back at zero. -/
theorem close_cell (kd : Kd) : iprop(shared m ρ hR K ιw ∗ atPos ER (cell c kd) 1 ∅ 0) ⊢ iprop(|={Set.univ}=> semVal (cell c kd) 0) := by
  iintro ⟨#HS, Hat⟩
  iapply (Rounds.cell_close ER (Rd m ρ hR) (Set.mem_univ (K (c, kd))) (fun h => h) (R := 1) (duties_later m ρ hR (cell c kd)))
  isplitr; · iapply (inv_at m ρ hR K ιw c kd); iexact HS
  iexact Hat

/-- The barrier signal to the other device: the landing buffer goes with it. -/
theorem wp_signal_peer (n : Dev nD) (hn : n = peer c) {k : PUnit → Prog (TpuEff nD τ sig (Elt F) Λ₀ .tc) PUnit} (W : Waits sig Unit) :
    iprop(shared m ρ hR K ιw ∗ owes (c : Thread nD τ) (O₀ c) W ∗ dutyTok ER (cell (peer c) .bar) 0 () ∗ wmPts m ρ c fullShare ∅)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  iintro ⟨#HS, HO, Htok, Hr⟩ Hk
  iapply (Rounds.wp_signal 𝒱₀ ER (Rd m ρ hR) (c : Thread nD τ) none (dst := (peer c : Thread nD τ)) (κ := K (peer c, .bar)) (d := ()) (r := 0)
      (mem_duties m ρ hR (peer c) .bar) (amount_cell m ρ hR (peer c) .bar ()) () (O₁ c) rfl) $$ [HO Htok Hr]
  · isplitr; · iapply (inv_at m ρ hR K ιw (peer c) .bar); iexact HS
    isplitl [HO]; · iexact HO
    isplitl [Htok]; · iexact Htok
    isplitl [Hr]
    · iapply (Entails.of_eq (show wmPts m ρ c fullShare ∅ = (Rd m ρ hR).payload ((peer c : Thread nD τ), .reg barS) 0 () from by
        rw [show (Rd m ρ hR).payload ((peer c : Thread nD τ), .reg barS) 0 () = barPay m ρ (peer c) from payload_cell m ρ hR (peer c) .bar ()]
        unfold barPay; rw [peer_peer]))
      iexact Hr
    iapply (reached_at m ρ hR K ιw (peer c) .bar); iexact HS
  iexact Hk

omit [FloatOps F] in
/-- A transfer into a buffer held in write mode, at any schedule and views. -/
theorem wp_send_into (R : Rounds.Schedule (GSem nD τ sig) Unit 𝕄) [∀ g r u, BI.Storable (upEmb : UEmb _ 𝕄) (R.payload g r u)]
    (P : sProp 𝕄) [BI.Persistent P] (d : Dev nD) {src dst : Memref sig .tc .vmem S128x512 .bf16} {sS sR : DmaSem sig} {κ₁ κ₂ : ℕ}
    (hI₁ : P ⊢ cellInv ER R κ₁ ((c : Thread nD τ), .dma sS)) (hI₂ : P ⊢ cellInv ER R κ₂ ((d : Thread nD τ), .dma sR))
    (hr₁ : P ⊢ reached ER ((c : Thread nD τ), .dma sS) 0) (hr₂ : P ⊢ reached ER ((d : Thread nD τ), .dma sR) 0)
    (hwm : P ⊢ wmInv EW ιw)
    (hd₁ : () ∈ R.duties ((c : Thread nD τ), .dma sS) 0) (hd₂ : () ∈ R.duties ((d : Thread nD τ), .dma sR) 0)
    (n : ℕ) (hN : dst.view.amount (.dma sR) = n)
    (ha₁ : R.amount ((c : Thread nD τ), .dma sS) 0 () = n) (ha₂ : R.amount ((d : Thread nD τ), .dma sR) 0 () = n)
    {q : PosShare TreeShare} {fs : Buf (Elt F) (src.view.loc (c : Thread nD τ))} {f : Buf (Elt F) (dst.view.loc (d : Thread nD τ))}
    {g : Tgt (Elt F) (dst.view.loc (d : Thread nD τ))}
    (hadm : dst.view.Admitted (Elt F) g (src.view.read (Elt F) fs) Finset.univ)
    (hp₁ : (src.view.loc (c : Thread nD τ) ↦[src.view.set]{q} fs) ⊢ R.payload ((c : Thread nD τ), .dma sS) 0 ())
    (hp₂ : willBeTo EW (dst.view.loc (d : Thread nD τ)) Finset.univ q f g dst.view.set ⊢ R.payload ((d : Thread nD τ), .dma sR) 0 ())
    {hsc : dst.view.ref.isScScratch = false} {hsrc : src.view.WordExact} {hdst : dst.view.WordExact}
    {hsem : DmaTarget.Typed .vmem (.dma sR) (.remote (Dev.tc d : Thread nD τ) dst (.dma sS) hsc)}
    {k : PUnit → Prog (TpuEff nD τ sig (Elt F) Λ₀ .tc) PUnit} (df : Defs nD τ sig (Elt F) Λ₀) (O : CellTallies nD τ sig Unit) (W : Waits sig Unit) :
    iprop(P ∗ (src.view.loc (c : Thread nD τ) ↦[src.view.set]{q} fs) ∗ willBeTo EW (dst.view.loc (d : Thread nD τ)) Finset.univ q f g ∅
        ∗ owes (c : Thread nD τ) (O + tallyAt ((d : Thread nD τ), .dma sR) () n) W
        ∗ dutyTok ER ((c : Thread nD τ), .dma sS) 0 () ∗ dutyTok ER ((d : Thread nD τ), .dma sR) 0 ())
      ⊢ iprop(((cred (tallyAt ((c : Thread nD τ), .dma sS) () n) ∗ owes (c : Thread nD τ) O W)
            -∗ wp frame (wpE df 𝒱₀ (c : Thread nD τ) none) Set.univ (k ⟨⟩) Q)
          -∗ wp frame (wpE df 𝒱₀ (c : Thread nD τ) none) Set.univ
            (.op (.enqueueDma src (.remote (Dev.tc d : Thread nD τ) dst (.dma sS) hsc) (.dma sR) hsrc hdst hsem) k) Q) := by
  have hwu := willBeTo_writeUpdate (Ix := Unit) (Lvl := ℕ) (emb := EW) (ιwm := ιw) (d : Thread nD τ) (v := dst.view)
    (w := src.view.read (Elt F) fs) (S := Finset.univ) (q := q) (f := f) (g := g) (W := ∅) (Finset.subset_univ _) hadm
  rw [Finset.empty_union] at hwu
  iintro ⟨#HS, Hsrc, Hdst, HO, Ht1, Ht2⟩ Hk
  iapply (Rounds.wp_send 𝒱₀ ER R (c : Thread nD τ) none (κ₁ := κ₁) (κ₂ := κ₂) (q := q) (fs := fs)
    (r₁ := 0) (r₂ := 0) (d₁ := ()) (d₂ := ()) hd₁ hd₂ () () n hN ha₁ ha₂ O rfl (W := W) hp₁ hp₂) $$ [Hsrc Hdst HO Ht1 Ht2]
  · isplitr; · iapply hI₁; iexact HS
    isplitr; · iapply hI₂; iexact HS
    isplitl [Hsrc]; · iexact Hsrc
    isplitl [Hdst]
    · iapply hwu
      isplitr; · iapply hwm; iexact HS
      iexact Hdst
    isplitl [HO]; · iexact HO
    isplitl [Ht1]; · iexact Ht1
    isplitr; · iapply hr₁; iexact HS
    isplitl [Ht2]; · iexact Ht2
    iapply hr₂; iexact HS
  iexact Hk

theorem amount_dst (j : Fin 4) : (dstM m ρ hR c j).view.amount (.dma (recvS j)) = N := rfl

/-- The `j`-th transfer to the other device. -/
theorem wp_send_peer (j : Fin 4) (n : Dev nD) (hn : n = peer c)
    {hsc : (dstM m ρ hR c j).view.ref.isScScratch = false} {hsrc : (srcM m ρ hR c j).view.WordExact} {hdst : (dstM m ρ hR c j).view.WordExact}
    {hsem : DmaTarget.Typed .vmem (.dma (recvS j)) (.remote (Dev.tc n : Thread nD τ) (dstM m ρ hR c j) (.dma (sendS j)) hsc)}
    {k : PUnit → Prog (TpuEff nD τ sig (Elt F) Λ₀ .tc) PUnit} (O : CellTallies nD τ sig Unit) (W : Waits sig Unit) :
    iprop(shared m ρ hR K ιw ∗ sendPay m ρ hR c j ∗ wmPts m ρ (peer c) (qt j) ∅ ∗ owes (c : Thread nD τ) (O + owe c j) W
        ∗ dutyTok ER (cell c (.send j)) 0 () ∗ dutyTok ER (cell (peer c) (.recv j)) 0 ())
      ⊢ iprop(((cred (tallyAt (cell c (.send j)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (srcM m ρ hR c j) (.remote (Dev.tc n : Thread nD τ) (dstM m ρ hR c j) (.dma (sendS j)) hsc) (.dma (recvS j)) hsrc hdst hsem) k) Q) := by
  subst hn
  have h1 : sendPay m ρ hR c j ⊢ (Rd m ρ hR).payload (cell c (.send j)) 0 () := by rw [payload_cell]; exact BI.Entails.refl _
  have h2 : wmPts m ρ (peer c) (qt j) (dstSet m ρ hR (peer c) c j) ⊢ (Rd m ρ hR).payload (cell (peer c) (.recv j)) 0 () := by
    rw [payload_cell]
    show _ ⊢ recvPay m ρ hR (peer c) j
    unfold recvPay; rw [peer_peer]
  exact wp_send_into ιw c (Rd m ρ hR) (shared m ρ hR K ιw) (peer c) (src := srcM m ρ hR c j) (dst := dstM m ρ hR c j) (sS := sendS j) (sR := recvS j)
    (inv_at m ρ hR K ιw c (.send j)) (inv_at m ρ hR K ιw (peer c) (.recv j)) (reached_at m ρ hR K ιw c (.send j))
    (reached_at m ρ hR K ιw (peer c) (.recv j)) (wm_at m ρ hR K ιw)
    (mem_duties m ρ hR c (.send j)) (mem_duties m ρ hR (peer c) (.recv j)) N (amount_dst m ρ hR c j)
    (amount_cell m ρ hR c (.send j) ()) (amount_cell m ρ hR (peer c) (.recv j) ()) (q := qt j) (fs := sb m ρ c) (f := zeros (F := F))
    (g := tgt m ρ (peer c)) (send_admitted m ρ hR c j) h1 h2 (defs₀ (F := F)) O W

omit [FloatOps F] in
/-- A whole buffer's elements are all of it. -/
theorem pts_whole (b : Ref sig .tc) (q : PosShare TreeShare) (f : Buf (Elt F) ((c : Thread nD τ).loc b)) :
    ((View.loc (c : Thread nD τ) (Memref.whole b).view) ↦[(Memref.whole b).view.set]{q} f : sProp 𝕄) = (((c : Thread nD τ).loc b) ↦{q} f) := by
  rw [show (Memref.whole b).view.set = Finset.univ from View.set_whole b]

/-- The local copy of the count. -/
theorem wp_copy_cnt {hsrc : vM.view.WordExact} {hdst : wM.view.WordExact}
    {hsem : DmaTarget.Typed (nD := nD) (τ := τ) (p := .tc) .vmem (.dma cpyS) (.here wM)}
    {k : PUnit → Prog (TpuEff nD τ sig (Elt F) Λ₀ .tc) PUnit} (fd : Buf (Elt F) ((c : Thread nD τ).loc cc0_scratch3)) :
    iprop(shared m ρ hR K ιw ∗ (((c : Thread nD τ).loc cc0_scratch2) ↦{fullShare} cnt m ρ c) ∗ (((c : Thread nD τ).loc cc0_scratch3) ↦{fullShare} fd)
        ∗ dutyTok ER (cell c .cpy) 0 ())
      ⊢ iprop((cred (tallyAt (cell c .cpy) () NC) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma vM (.here wM) (.dma cpyS) hsrc hdst hsem) k) Q) := by
  iintro ⟨#HS, Hsrc, Hdst, Ht⟩ Hk
  iapply (Rounds.wp_copy_pointsTo 𝒱₀ ER (Rd m ρ hR) (c : Thread nD τ) none (κ := K (c, .cpy)) (src := vM) (dst := wM) (q := fullShare) (fs := cnt m ρ c) (fd := fd)
    (r := 0) (d := ()) (mem_duties m ρ hR c .cpy) () NC rfl (amount_cell m ρ hR c .cpy ())
    (by
      rw [show (Rd m ρ hR).payload ((c : Thread nD τ), csem .cpy) 0 () = cpyPay m ρ c from payload_cell m ρ hR c .cpy ()]
      unfold cpyPay
      rw [show wM.view.write (Elt F) fd (vM.view.read (Elt F) (cnt m ρ c)) Finset.univ = cnt m ρ c from
        View.write_whole_univ (Val := Elt F) cc0_scratch3 fd (cnt m ρ c)]
      exact Entails.of_eq (congrArg₂ _ (pts_whole c cc0_scratch3 _ _) (pts_whole c cc0_scratch2 _ _)))) $$ [Hsrc Hdst Ht]
  · isplitr; · iapply (inv_at m ρ hR K ιw c .cpy); iexact HS
    isplitl [Hsrc]; · iapply (Entails.of_eq (pts_whole c cc0_scratch2 fullShare (cnt m ρ c)).symm); iexact Hsrc
    isplitl [Hdst]; · iapply (Entails.of_eq (pts_whole c cc0_scratch3 fullShare fd).symm); iexact Hdst
    isplitl [Ht]; · iexact Ht
    iapply (reached_at m ρ hR K ιw c .cpy); iexact HS
  iexact Hk

/-- After the `j`-th wait, the `j`-th block of the landing buffer is read at its final contents. -/
theorem wp_load_land (j : Fin 4) (o : ℕ) (ho : o = 128 * j.val) {inb : ∀ a, (![o, 0] : Fin 2 → ℕ) a + S128x512.size a ≤ S1024x512.size a}
    {hl : rM.view.LoadsAt (Rect.unit (s := S1024x512) ![o, 0] S128x512.size inb).toLoadRect}
    {k : Vec F S128x512 .bf16 → Prog (TpuEff nD τ sig (Elt F) Λ₀ .tc) PUnit} :
    iprop(shared m ρ hR K ιw ∗ recvPay m ρ hR c j)
      ⊢ iprop((recvPay m ρ hR c j -∗ wp frame (wpE (defs₀ (F := F)) 𝒱₀ (c : Thread nD τ) none) Set.univ
            (k (rM.view.readAt (Elt F) (Rect.unit (s := S1024x512) ![o, 0] S128x512.size inb).toLoadRect (land m ρ c))) Q)
          -∗ wp frame (wpE (defs₀ (F := F)) 𝒱₀ (c : Thread nD τ) none) Set.univ (.op (.load rM (Rect.unit (s := S1024x512) ![o, 0] S128x512.size inb).toLoadRect hl) k) Q) := by
  unfold recvPay wmPts
  iintro ⟨#HS, Hr⟩ Hk
  iapply (wp_load_willBeTo (emb := EW) (ιwm := ιw) 𝒱₀ (c : Thread nD τ) none Set.univ (m := rM) (S := Finset.univ) (Finset.subset_univ _)) $$ [Hr]
  · isplitr; · iapply (wm_at m ρ hR K ιw); iexact HS
    iexact Hr
  iintro %cur %W' %hW Hr
  rw [View.readAt_congr (v := rM.view) (r := (Rect.unit (s := S1024x512) ![o, 0] S128x512.size inb).toLoadRect) (f := cur) (g := land m ρ c) (fun i hi => by
    have hi' : i ∈ (Rect.unit (s := S1024x512) ![o, 0] S128x512.size inb).set := by
      obtain ⟨y, hy, rfl⟩ := Finset.mem_map.mp hi
      exact hy
    have h0 := (Rect.mem_set_unit.mp hi') (0 : Fin 2)
    obtain ⟨hsub, hcur⟩ := hW
    by_cases hm : i ∈ W'
    · exact (hcur i (Finset.mem_univ _)).2 hm _ rfl
    · rw [(hcur i (Finset.mem_univ _)).1 hm]
      exact (land_unmarked m ρ hR c j i (by subst ho; exact h0.1) (by subst ho; exact h0.2) fun h => hm (hsub h)).symm)]
  iapply Hk
  iexact Hr

end Cert.Exchange

end
-- ==== Proof.Body.lean ====
/-
# One device's run

The kernel's body at a symbolic device, from its share of the launch to its result.
-/
module

public import proofs.«01_k».proof.Proof.Steps

@[expose] public section

noncomputable section

namespace Cert.Exchange

open Cert.KernelIdeal Cert.KernelIdeal.Gen Cert.Words
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ) (ρ : Dev nD → PrngReg)

/-! ## The result -/

/-- The `j`-th block of rows of a landing buffer. -/
def blk (o : ℕ) (inb : ∀ a, (![o, 0] : Fin 2 → ℕ) a + S128x512.size a ≤ S1024x512.size a) (f : (cc0_scratch1 : Ref sig .tc).ty.Contents (Elt F)) :
    Vec F S128x512 .bf16 := rM.view.readAt (Elt F) (Rect.unit (s := S1024x512) ![o, 0] S128x512.size inb).toLoadRect f

def outAt (c : Dev nD) : (cc0_stg2_0 : Ref sig .tc).ty.Contents (Elt F) :=
  let w := word m ρ c
  let band := k0_pay10 (F := F) (shift c w)
  let x := k0_pay8 (k0_pay2 (F := F) (dstg m ρ c)) lane (inc m ρ c) (xstg m ρ c)
  k0_pay13 band
    (k0_pay12 band
      (k0_pay11 x (keepLen c w) (keepBase c w) (shift c w) (blk 0 inb_S1024x512_S128x512_0_0 (land m ρ c)))
      (blk 128 inb_S1024x512_S128x512_128_0 (land m ρ c)) (blk 256 inb_S1024x512_S128x512_256_0 (land m ρ c)))
    (blk 384 inb_S1024x512_S128x512_384_0 (land m ρ c))

/-! ## A buffer in four quarters -/

omit [FloatOps F] in
theorem pts_quarters (ℓ : Loc nD τ sig) (I : Finset (Idx ℓ)) (f : Buf (Elt F) ℓ) :
    (ℓ ↦[I]{fullShare} f : sProp 𝕄) ⊣⊢ iprop((ℓ ↦[I]{qt 0} f) ∗ (ℓ ↦[I]{qt 1} f) ∗ (ℓ ↦[I]{qt 2} f) ∗ ℓ ↦[I]{qt 3} f) := by
  have h0 := pointsTo_share (Ix := Unit) (Name := ℕ) (U := UU F) (Lvl := ℕ) (ℓ := ℓ) (I := I) (f := f) (PosShare.mem_left_op_right fullShare)
  have h1 := pointsTo_share (Ix := Unit) (Name := ℕ) (U := UU F) (Lvl := ℕ) (ℓ := ℓ) (I := I) (f := f) (PosShare.mem_left_op_right fullShare.left)
  have h2 := pointsTo_share (Ix := Unit) (Name := ℕ) (U := UU F) (Lvl := ℕ) (ℓ := ℓ) (I := I) (f := f) (PosShare.mem_left_op_right fullShare.right)
  constructor
  · iintro H
    ihave H := h0.1 $$ H
    icases H with ⟨Ha, Hb⟩
    ihave Ha := h1.1 $$ Ha
    ihave Hb := h2.1 $$ Hb
    icases Ha with ⟨H0, H1⟩
    icases Hb with ⟨H2, H3⟩
    isplitl [H0]; · iexact H0
    isplitl [H1]; · iexact H1
    isplitl [H2]; · iexact H2
    iexact H3
  · iintro ⟨H0, H1, H2, H3⟩
    iapply h0.2
    isplitl [H0 H1]
    · iapply h1.2; isplitl [H0]; · iexact H0
      iexact H1
    · iapply h2.2; isplitl [H2]; · iexact H2
      iexact H3

/-- A whole landing buffer in write mode, in four quarters, and the quarters' marks together again. -/
theorem wm_split (c : Dev nD) : wmPts m ρ c fullShare ∅
    ⊢ iprop(wmPts m ρ c (qt 0) ∅ ∗ wmPts m ρ c (qt 1) ∅ ∗ wmPts m ρ c (qt 2) ∅ ∗ wmPts m ρ c (qt 3) ∅) := by
  simp only [wmPts, qt]
  iintro H
  icases H with ⟨Ha, Hb⟩
  icases Ha with ⟨H0, H1⟩
  icases Hb with ⟨H2, H3⟩
  isplitl [H0]; · iexact H0
  isplitl [H1]; · iexact H1
  isplitl [H2]; · iexact H2
  iexact H3

theorem wm_join (c : Dev nD) (W₀ W₁ W₂ W₃ : Finset (Idx (rLoc c))) :
    iprop(wmPts m ρ c (qt 0) W₀ ∗ wmPts m ρ c (qt 1) W₁ ∗ wmPts m ρ c (qt 2) W₂ ∗ wmPts m ρ c (qt 3) W₃)
      ⊢ ∃ W, wmPts m ρ c fullShare W := by
  simp only [wmPts, qt]
  iintro ⟨H0, H1, H2, H3⟩
  iexists ((W₀ ∪ W₁) ∪ (W₂ ∪ W₃))
  icombine H0 H1 as Ha
  icombine H2 H3 as Hb
  icombine Ha Hb as H
  iexact H

variable (hR : InRange m ρ)

/-- What is left of a quarter of the sorted buffer once the rows of the `j`-th transfer are out. -/
def sbRest (c : Dev nD) (j : Fin 4) : sProp 𝕄 := sLoc c ↦[Finset.univ \ srcSet m ρ hR c j]{qt j} sb m ρ c

theorem send_cut (c : Dev nD) (j : Fin 4) : (sLoc c ↦{qt j} sb m ρ c : sProp 𝕄) ⊣⊢ iprop(sendPay m ρ hR c j ∗ sbRest m ρ hR c j) :=
  pointsTo_split_subset (Finset.subset_univ _)

theorem sb_split (c : Dev nD) : (sLoc c ↦{fullShare} sb m ρ c : sProp 𝕄)
    ⊣⊢ iprop((sendPay m ρ hR c 0 ∗ sbRest m ρ hR c 0) ∗ (sendPay m ρ hR c 1 ∗ sbRest m ρ hR c 1) ∗ (sendPay m ρ hR c 2 ∗ sbRest m ρ hR c 2)
      ∗ (sendPay m ρ hR c 3 ∗ sbRest m ρ hR c 3)) := by
  have h := pts_quarters (F := F) (sLoc c) Finset.univ (sb m ρ c)
  have h0 := send_cut m ρ hR c 0
  have h1 := send_cut m ρ hR c 1
  have h2 := send_cut m ρ hR c 2
  have h3 := send_cut m ρ hR c 3
  constructor
  · exact h.1.trans (BIClass.sep_mono h0.1 (BIClass.sep_mono h1.1 (BIClass.sep_mono h2.1 h3.1)))
  · exact (BIClass.sep_mono h0.2 (BIClass.sep_mono h1.2 (BIClass.sep_mono h2.2 h3.2))).trans h.2

/-! ## The assertions around the body -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

omit [FloatOps F] in
theorem bigSep_kd (Φ : Kd → sProp 𝕄) : bigSep Finset.univ Φ
    = iprop(Φ .bar ∗ Φ .cpy ∗ Φ (.send 0) ∗ Φ (.send 1) ∗ Φ (.send 2) ∗ Φ (.send 3) ∗ Φ (.recv 0) ∗ Φ (.recv 1) ∗ Φ (.recv 2) ∗ Φ (.recv 3)) :=
  bigSep_univ_eq_bigSepL kds (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The tokens a device pays with. -/
def payToks (c : Dev nD) : sProp 𝕄 :=
  iprop(dutyTok ER (cell (peer c) .bar) 0 () ∗ dutyTok ER (cell c .cpy) 0 ()
    ∗ (bigSep Finset.univ fun j : Fin 4 => dutyTok ER (cell c (.send j)) 0 ()) ∗ bigSep Finset.univ fun j : Fin 4 => dutyTok ER (cell (peer c) (.recv j)) 0 ())

/-- What only this device holds of the protocol. -/
def linear (c : Dev nD) : sProp 𝕄 := iprop((bigSep Finset.univ fun k : Kd => atPos ER (cell c k) 0 ∅ 0) ∗ payToks c)

/-- The invariants and records of all semaphores. -/
def records (K : Dev nD × Kd → ℕ) : sProp 𝕄 :=
  iprop((bigSep Finset.univ fun ck : Dev nD × Kd => cellInv ER (Rd m ρ hR) (K ck) (cell ck.1 ck.2))
    ∗ (bigSep Finset.univ fun ck : Dev nD × Kd => reached ER (cell ck.1 ck.2) 0))
instance records_persistent (K : Dev nD × Kd → ℕ) : BI.Persistent (records m ρ hR K) := by unfold records; infer_instance

def ghost (c : Dev nD) : sProp 𝕄 := iprop(∃ (K : Dev nD × Kd → ℕ) (ιw : ℕ), records m ρ hR K ∗ wmInv EW ιw ∗ linear c)

def credits (c : Dev nD) : sProp 𝕄 := iprop(cred (tallyAt (cell c .bar) () 1) ∗ bigSep Finset.univ fun j : Fin 4 => cred (tallyAt (cell c (.recv j)) () N))

def start (c : Dev nD) : sProp 𝕄 := iprop(ghost m ρ hR c ∗ credits c ∗ levAts L lv)

/-- A buffer at some contents. -/
def anyAt (c : Dev nD) (b : Ref sig .tc) : sProp 𝕄 := iprop(∃ f : Buf (Elt F) ((c : Thread nD τ).loc b), ((c : Thread nD τ).loc b) ↦{fullShare} f)

def scr (c : Dev nD) : sProp 𝕄 := iprop(anyAt c cc0_scratch0 ∗ anyAt c cc0_scratch1 ∗ anyAt c cc0_scratch2 ∗ anyAt c cc0_scratch3)

def Φ₀ (c : Dev nD) : sProp 𝕄 := iprop(start m ρ hR c ∗ scr c)
def Φ₁ (c : Dev nD) : sProp 𝕄 := iprop(scr c ∗ bigSep Finset.univ fun k : Kd => semVal (cell c k) 0)

def dats (_ : Fin 1) (c : Dev nD) : Dat τ (Elt F) Unit ℕ (UU F) ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => Φ₀ m ρ hR c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU F) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Whole loads and stores -/

theorem hz : (![0, 0] : Fin 2 → Nat) = fun _ => 0 := funext fun a => by fin_cases a <;> rfl
omit [FloatOps F] in
theorem read_x (f : (cc0_stg0_0 : Ref sig .tc).ty.Contents (Elt F)) :
    xM.view.readAt (Elt F) (Rect.unit (s := S1024x512) ![0, 0] S1024x512.size inb_S1024x512_S1024x512_0_0).toLoadRect f = f :=
  Memref.readAt_unit_zero (Elt F) cc0_stg0_0 hz _ f
omit [FloatOps F] in
theorem read_d (f : (cc0_stg1_0 : Ref sig .tc).ty.Contents (Elt F)) :
    dM.view.readAt (Elt F) (Rect.unit (s := S1x1024) ![0, 0] S1x1024.size inb_S1x1024_S1x1024_0_0).toLoadRect f = f :=
  Memref.readAt_unit_zero (Elt F) cc0_stg1_0 hz _ f
omit [FloatOps F] in
theorem write_o (f w : (cc0_stg2_0 : Ref sig .tc).ty.Contents (Elt F)) :
    (oM.access (Rect.unit (s := S1024x512) ![0, 0] S1024x512.size inb_S1024x512_S1024x512_0_0) : View sig .tc _ _ _).write (Elt F) f w Finset.univ = w :=
  Memref.write_access_unit_zero_univ (Elt F) cc0_stg2_0 hz _ f w
omit [FloatOps F] in
theorem write_s (f w : (cc0_scratch0 : Ref sig .tc).ty.Contents (Elt F)) :
    (sM.access (Rect.unit (s := S1024x512) ![0, 0] S1024x512.size inb_S1024x512_S1024x512_0_0) : View sig .tc _ _ _).write (Elt F) f w Finset.univ = w :=
  Memref.write_access_unit_zero_univ (Elt F) cc0_scratch0 hz _ f w
omit [FloatOps F] in
theorem write_r (f w : (cc0_scratch1 : Ref sig .tc).ty.Contents (Elt F)) :
    (rM.access (Rect.unit (s := S1024x512) ![0, 0] S1024x512.size inb_S1024x512_S1024x512_0_0) : View sig .tc _ _ _).write (Elt F) f w Finset.univ = w :=
  Memref.write_access_unit_zero_univ (Elt F) cc0_scratch1 hz _ f w
omit [FloatOps F] in
theorem write_v (f w : (cc0_scratch2 : Ref sig .tc).ty.Contents (Elt F)) :
    (vM.access (Rect.unit (s := S1x1) ![0, 0] S1x1.size inb_S1x1_S1x1_0_0) : View sig .tc _ _ _).write (Elt F) f w Finset.univ = w :=
  Memref.write_access_unit_zero_univ (Elt F) cc0_scratch2 hz _ f w

theorem dev_peer (n : ℕ) (h : n < nD) (c : Dev nD) (e : n = (peer c).val) : (⟨n, h⟩ : Dev nD) = peer c := Fin.ext e
theorem dev_eqs : ∀ c : Dev nD, k0_dev1 c = (peer c).val ∧ k0_dev2 c = (peer c).val ∧ k0_dev3 c = (peer c).val ∧ k0_dev4 c = (peer c).val
    ∧ k0_dev5 c = (peer c).val := by decide

/-- A device that owes nothing may wait. -/
theorem mayWait_none (c : Dev nD) (sm : SemLoc sig) : (levAts L lv : sProp 𝕄) ⊢ MayWait (c : Thread nD τ) sm () (0 : CellTallies nD τ sig Unit) := by
  rw [MayWait_zero]; iintro -; iempintro

theorem owes_done (c : Dev nD) (W : Waits sig Unit) :
    (owes (c : Thread nD τ) (0 : CellTallies nD τ sig Unit) W : sProp 𝕄) ⊢ (dats m ρ hR 0 c).owesAt () t₀.succ := by
  unfold Dat.owesAt Pipeline.owesWithin
  rw [show (dats m ρ hR 0 c).owed t₀.succ = 0 from rfl]
  iintro H
  iexists W
  isplitr
  · ipureintro; exact fun _ _ => Or.inl trivial
  iexact H

variable (K : Dev nD × Kd → ℕ) (ιw : ℕ)

/-- A device's waits for what arrives and for what it sent. -/
theorem wp_wait_recv (c : Dev nD) (j : Fin 4) {src dst : Memref sig .tc .vmem S128x512 .bf16} {h1 : src.view.WordExact} {h2 : dst.view.WordExact}
    {Q : PUnit.{1} → sProp (MT nD τ sig Unit (Elt F) ℕ (UU F) ℕ)} {k : PUnit → Prog (TpuEff nD τ sig (Elt F) Λ₀ .tc) PUnit} (W : Waits sig Unit) :
    iprop(shared m ρ hR K ιw ∗ cred (tallyAt (cell c (.recv j)) () N) ∗ owes (c : Thread nD τ) 0 W ∗ atPos ER (cell c (.recv j)) 0 ∅ 0)
      ⊢ iprop(((owes (c : Thread nD τ) 0 (insert (csem (.recv j), ()) W) ∗ atPos ER (cell c (.recv j)) 1 ∅ 0 ∗ pay m ρ hR c (.recv j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src dst h1 h2) k) Q) :=
  wp_wait_cell m ρ hR K ιw c (.recv j) (wpE_waitDma2_eq (src := src) (dst := dst) 𝒱₀ (c : Thread nD τ) none Set.univ) rfl 0 W (mayWait_none c _)

theorem wp_wait_send (c : Dev nD) (j : Fin 4) {src dst : Memref sig .tc .vmem S128x512 .bf16} {h1 : src.view.WordExact} {h2 : dst.view.WordExact}
    {Q : PUnit.{1} → sProp (MT nD τ sig Unit (Elt F) ℕ (UU F) ℕ)} {k : PUnit → Prog (TpuEff nD τ sig (Elt F) Λ₀ .tc) PUnit} (W : Waits sig Unit) :
    iprop(shared m ρ hR K ιw ∗ cred (tallyAt (cell c (.send j)) () N) ∗ owes (c : Thread nD τ) 0 W ∗ atPos ER (cell c (.send j)) 0 ∅ 0)
      ⊢ iprop(((owes (c : Thread nD τ) 0 (insert (csem (.send j), ()) W) ∗ atPos ER (cell c (.send j)) 1 ∅ 0 ∗ pay m ρ hR c (.send j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src dst h1 h2) k) Q) :=
  wp_wait_cell m ρ hR K ιw c (.send j) (wpE_waitDma2_eq (src := src) (dst := dst) 𝒱₀ (c : Thread nD τ) none Set.univ) rfl 0 W (mayWait_none c _)

omit K ιw in
/-- The four quarters of the landing buffer, together again. -/
theorem land_join (c : Dev nD) : iprop(recvPay m ρ hR c 0 ∗ recvPay m ρ hR c 1 ∗ recvPay m ρ hR c 2 ∗ recvPay m ρ hR c 3)
    ⊢ ∃ W, wmPts m ρ c fullShare W := by
  unfold recvPay; exact wm_join m ρ c _ _ _ _

/-! ## The run -/

def bodyPre (c : Dev nD) : sProp 𝕄 :=
  iprop(Φ₀ m ρ hR c ∗ (dats m ρ hR 0 c).owesAt () t₀.castSucc
    ∗ (∃ d, stg c cc0_stg0_0 ((dats m ρ hR 0 c).before (0 : Fin 3) t₀ d))
    ∗ (∃ d, stg c cc0_stg1_0 ((dats m ρ hR 0 c).before (1 : Fin 3) t₀ d))
    ∗ (∃ d, stg c cc0_stg2_0 ((dats m ρ hR 0 c).before (2 : Fin 3) t₀ d)))
def bodyPost (c : Dev nD) : sProp 𝕄 :=
  iprop(Φ₁ c ∗ (dats m ρ hR 0 c).owesAt () t₀.succ ∗ stg c cc0_stg0_0 (xstg m ρ c) ∗ stg c cc0_stg1_0 (dstg m ρ c) ∗ stg c cc0_stg2_0 (outAt m ρ c))

omit K ιw in
set_option maxHeartbeats 4000000 in
theorem sound_body (c : Dev nD) (Kt : PUnit → sProp 𝕄) :
    iprop(bodyPre m ρ hR c ∗ (bodyPost m ρ hR c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6) Kt := by
  simp only [cc0_body_eq_skeleton]; unfold cc0_body_skel
  simp only [k0_part9_eq_skeleton, k0_part9_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel, k0_part7_eq_skeleton, k0_part7_skel,
    k0_part8_eq_skeleton, k0_part8_skel]
  simp only [semSignalWord, semWaitWord, smemLoad, Prog.lift, Prog.bind_op, Prog.bind_ret, Prog.pure_eq_ret, smemLoadElt_bind, wp_deviceId]
  unfold bodyPre Φ₀ start ghost linear payToks credits scr anyAt
  simp only [bigSep_fin4, bigSep_kd]
  iintro ⟨⟨⟨⟨⟨%K, %ιw, #HRec, #HWm, ⟨HaB, HaC, HaS0, HaS1, HaS2, HaS3, HaR0, HaR1, HaR2, HaR3⟩, HtB, HtC, ⟨HtS0, HtS1, HtS2, HtS3⟩, ⟨HtR0, HtR1, HtR2, HtR3⟩⟩,
    ⟨HcB, HcR0, HcR1, HcR2, HcR3⟩, #Hlev⟩, ⟨%fs, Hs⟩, ⟨%fr, Hr⟩, ⟨%fv, Hv⟩, ⟨%fw, Hw⟩⟩, Ho, ⟨%d0, %g0, %hg0, Hx⟩, ⟨%d1, %g1, %hg1, Hd⟩, ⟨%d2, %g2, %hg2, Hout⟩⟩, Hk⟩
  have hx : g0 = xstg m ρ c := by rw [hg0]; unfold Dat.before; rw [if_pos (fetch_0 t₀)]; rfl
  subst hx
  have hd : g1 = dstg m ρ c := by rw [hg1]; unfold Dat.before; rw [if_pos (fetch_1 t₀)]; rfl
  subst hd
  ihave #HS := (show iprop(records m ρ hR K ∗ levAts L lv ∗ wmInv EW ιw) ⊢ shared m ρ hR K ιw from by
    unfold records shared
    iintro ⟨⟨H1, H2⟩, H3, H4⟩
    isplitl [H1]; · iexact H1
    isplitl [H2]; · iexact H2
    isplitl [H3]; · iexact H3
    iexact H4) $$ []
  · isplitr; · iexact HRec
    isplitr; · iexact Hlev
    iexact HWm
  unfold Dat.owesAt Pipeline.owesWithin
  icases Ho with ⟨%W, %hW, HO⟩
  rw [show (dats m ρ hR 0 c).owed t₀.castSucc = O₀ c from rfl]
  obtain ⟨hn1, hn2, hn3, hn4, hn5⟩ := dev_eqs c
  -- the landing buffer cleared, and put in write mode
  iapply (wp_load 𝒱₀ (c : Thread nD τ) none Set.univ (m := rM) (Finset.subset_univ _)) $$ Hr; iintro Hr
  iapply (wp_store 𝒱₀ (c : Thread nD τ) none Set.univ (m := rM) (r := Rect.unit (s := S1024x512) ![0, 0] S1024x512.size inb_S1024x512_S1024x512_0_0)
    (Mk := Finset.univ) (Finset.subset_univ _)) $$ Hr; iintro Hr
  rw [write_r]
  imod (pointsTo_castIn (emb := EW) (ιwm := ιw) (E := Set.univ) (I := Finset.univ) (f := zeros (F := F)) (tgt m ρ c)) $$ [Hr] with Hr
  · isplitr; · iexact HWm
    iexact Hr
  iapply (wp_signal_peer m ρ hR K ιw c _ (dev_peer _ _ c hn1) W) $$ [HO HtB Hr]
  · isplitr; · iexact HS
    isplitl [HO]; · iexact HO
    isplitl [HtB]; · iexact HtB
    unfold wmPts; iexact Hr
  iintro HO
  -- the sort: counts, the count for the scalar side, the rows in order
  iapply (wp_load 𝒱₀ (c : Thread nD τ) none Set.univ (m := dM) (Finset.subset_univ _)) $$ Hd; iintro Hd
  rw [read_d]
  iapply (wp_load 𝒱₀ (c : Thread nD τ) none Set.univ (m := vM) (Finset.subset_univ _)) $$ Hv; iintro Hv
  iapply (wp_store 𝒱₀ (c : Thread nD τ) none Set.univ (m := vM) (r := Rect.unit (s := S1x1) ![0, 0] S1x1.size inb_S1x1_S1x1_0_0)
    (Mk := Finset.univ) (Finset.subset_univ _)) $$ Hv; iintro Hv
  rw [write_v]
  iapply (wp_copy_cnt m ρ hR K ιw c fw) $$ [Hv Hw HtC]
  · isplitr; · iexact HS
    isplitl [Hv]; · iexact Hv
    isplitl [Hw]; · iexact Hw
    iexact HtC
  iintro HcC
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := Rect.unit (s := S1024x512) ![0, 0] S1024x512.size inb_S1024x512_S1024x512_0_0)
    (Mk := Finset.univ) (Finset.subset_univ _)) $$ Hs; iintro Hs
  rw [write_s]
  iapply (wp_wait_cell m ρ hR K ιw c .cpy (wpE_waitDma2_eq 𝒱₀ (c : Thread nD τ) none Set.univ) rfl (O₁ c) W
    (mayWait_low c _ (lv_cell c .cpy ()) _ (.inr (.inl rfl)))) $$ [HcC HO HaC]
  · isplitr; · iexact HS
    isplitl [HcC]; · iexact HcC
    isplitl [HO]; · iexact HO
    iexact HaC
  iintro ⟨HO, HaC, Hp⟩
  ihave Hp := (Entails.of_eq (show pay m ρ hR c .cpy = cpyPay m ρ c from rfl)) $$ Hp
  unfold cpyPay
  icases Hp with ⟨Hw, Hv⟩
  -- the count, as the scalar side reads it
  iapply (wp_smemLoadElt_named 𝒱₀ (c : Thread nD τ) none Set.univ (m := wM) (S := Finset.univ) (hS := Finset.subset_univ _)) $$ Hw
  iintro Hw %w %hw
  have hwd : w = word m ρ c := hw.trans (congrArg (cnt m ρ c : S1x1.Idx → BitVec 32) (funext fun a => Fin.ext (by fin_cases a <;> exact Nat.lt_one_iff.mp (Fin.isLt _)) : (_ : S1x1.Idx) = _))
  subst hwd
  iapply (wp_assume 𝒱₀ (c : Thread nD τ) none Set.univ (hR.chk c))
  -- the other device is ready: its landing buffer
  iapply (wp_wait_cell m ρ hR K ιw c .bar (wpE_semWait_eq 𝒱₀ (c : Thread nD τ) none Set.univ) rfl (O₁ c) _ (mayWait_bar c)) $$ [HcB HO HaB]
  · isplitr; · iexact HS
    isplitl [HcB]; · iexact HcB
    isplitl [HO]; · iexact HO
    iexact HaB
  iintro ⟨HO, HaB, Hp⟩
  ihave Hp := (Entails.of_eq (show pay m ρ hR c .bar = wmPts m ρ (peer c) fullShare ∅ from rfl)) $$ Hp
  ihave Hp := (wm_split m ρ (peer c)) $$ Hp
  icases Hp with ⟨Hp0, Hp1, Hp2, Hp3⟩
  ihave Hs := (sb_split m ρ hR c).1 $$ [Hs]
  · iexact Hs
  icases Hs with ⟨⟨Hs0, Hz0⟩, ⟨Hs1, Hz1⟩, ⟨Hs2, Hz2⟩, ⟨Hs3, Hz3⟩⟩
  iapply (wp_send_peer m ρ hR K ιw c 0 _ (dev_peer _ _ c hn2) (0 + owe c 3 + owe c 2 + owe c 1) _) $$ [Hs0 Hp0 HO HtS0 HtR0]
  · isplitr; · iexact HS
    isplitl [Hs0]; · iexact Hs0
    isplitl [Hp0]; · iexact Hp0
    isplitl [HO]; · iexact HO
    isplitl [HtS0]; · iexact HtS0
    iexact HtR0
  iintro ⟨HcS0, HO⟩
  iapply (wp_send_peer m ρ hR K ιw c 1 _ (dev_peer _ _ c hn3) (0 + owe c 3 + owe c 2) _) $$ [Hs1 Hp1 HO HtS1 HtR1]
  · isplitr; · iexact HS
    isplitl [Hs1]; · iexact Hs1
    isplitl [Hp1]; · iexact Hp1
    isplitl [HO]; · iexact HO
    isplitl [HtS1]; · iexact HtS1
    iexact HtR1
  iintro ⟨HcS1, HO⟩
  iapply (wp_send_peer m ρ hR K ιw c 2 _ (dev_peer _ _ c hn4) (0 + owe c 3) _) $$ [Hs2 Hp2 HO HtS2 HtR2]
  · isplitr; · iexact HS
    isplitl [Hs2]; · iexact Hs2
    isplitl [Hp2]; · iexact Hp2
    isplitl [HO]; · iexact HO
    isplitl [HtS2]; · iexact HtS2
    iexact HtR2
  iintro ⟨HcS2, HO⟩
  iapply (wp_send_peer m ρ hR K ιw c 3 _ (dev_peer _ _ c hn5) 0 _) $$ [Hs3 Hp3 HO HtS3 HtR3]
  · isplitr; · iexact HS
    isplitl [Hs3]; · iexact Hs3
    isplitl [Hp3]; · iexact Hp3
    isplitl [HO]; · iexact HO
    isplitl [HtS3]; · iexact HtS3
    iexact HtR3
  iintro ⟨HcS3, HO⟩
  -- the rows that arrive, taken into the result
  iapply (wp_wait_recv m ρ hR K ιw c 0 _) $$ [HcR0 HO HaR0]
  · isplitr; · iexact HS
    isplitl [HcR0]; · iexact HcR0
    isplitl [HO]; · iexact HO
    iexact HaR0
  iintro ⟨HO, HaR0, Hq0⟩
  ihave Hq0 := (Entails.of_eq (show pay m ρ hR c (.recv 0) = recvPay m ρ hR c 0 from rfl)) $$ Hq0
  iapply (wp_load_land m ρ hR K ιw c 0 0 rfl) $$ [Hq0]
  · isplitr; · iexact HS
    iexact Hq0
  iintro Hq0
  iapply (wp_wait_recv m ρ hR K ιw c 1 _) $$ [HcR1 HO HaR1]
  · isplitr; · iexact HS
    isplitl [HcR1]; · iexact HcR1
    isplitl [HO]; · iexact HO
    iexact HaR1
  iintro ⟨HO, HaR1, Hq1⟩
  ihave Hq1 := (Entails.of_eq (show pay m ρ hR c (.recv 1) = recvPay m ρ hR c 1 from rfl)) $$ Hq1
  iapply (wp_load_land m ρ hR K ιw c 1 128 rfl) $$ [Hq1]
  · isplitr; · iexact HS
    iexact Hq1
  iintro Hq1
  iapply (wp_wait_recv m ρ hR K ιw c 2 _) $$ [HcR2 HO HaR2]
  · isplitr; · iexact HS
    isplitl [HcR2]; · iexact HcR2
    isplitl [HO]; · iexact HO
    iexact HaR2
  iintro ⟨HO, HaR2, Hq2⟩
  ihave Hq2 := (Entails.of_eq (show pay m ρ hR c (.recv 2) = recvPay m ρ hR c 2 from rfl)) $$ Hq2
  iapply (wp_load_land m ρ hR K ιw c 2 256 rfl) $$ [Hq2]
  · isplitr; · iexact HS
    iexact Hq2
  iintro Hq2
  iapply (wp_wait_recv m ρ hR K ιw c 3 _) $$ [HcR3 HO HaR3]
  · isplitr; · iexact HS
    isplitl [HcR3]; · iexact HcR3
    isplitl [HO]; · iexact HO
    iexact HaR3
  iintro ⟨HO, HaR3, Hq3⟩
  ihave Hq3 := (Entails.of_eq (show pay m ρ hR c (.recv 3) = recvPay m ρ hR c 3 from rfl)) $$ Hq3
  iapply (wp_load_land m ρ hR K ιw c 3 384 rfl) $$ [Hq3]
  · isplitr; · iexact HS
    iexact Hq3
  iintro Hq3
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) ![0, 0] S1024x512.size inb_S1024x512_S1024x512_0_0)
    (Mk := Finset.univ) (Finset.subset_univ _)) $$ Hout; iintro Hout
  rw [write_o]
  -- one's own rows have left
  iapply (wp_wait_send m ρ hR K ιw c 0 _) $$ [HcS0 HO HaS0]
  · isplitr; · iexact HS
    isplitl [HcS0]; · iexact HcS0
    isplitl [HO]; · iexact HO
    iexact HaS0
  iintro ⟨HO, HaS0, Hs0⟩
  ihave Hs0 := (Entails.of_eq (show pay m ρ hR c (.send 0) = sendPay m ρ hR c 0 from rfl)) $$ Hs0
  iapply (wp_wait_send m ρ hR K ιw c 1 _) $$ [HcS1 HO HaS1]
  · isplitr; · iexact HS
    isplitl [HcS1]; · iexact HcS1
    isplitl [HO]; · iexact HO
    iexact HaS1
  iintro ⟨HO, HaS1, Hs1⟩
  ihave Hs1 := (Entails.of_eq (show pay m ρ hR c (.send 1) = sendPay m ρ hR c 1 from rfl)) $$ Hs1
  iapply (wp_wait_send m ρ hR K ιw c 2 _) $$ [HcS2 HO HaS2]
  · isplitr; · iexact HS
    isplitl [HcS2]; · iexact HcS2
    isplitl [HO]; · iexact HO
    iexact HaS2
  iintro ⟨HO, HaS2, Hs2⟩
  ihave Hs2 := (Entails.of_eq (show pay m ρ hR c (.send 2) = sendPay m ρ hR c 2 from rfl)) $$ Hs2
  iapply (wp_wait_send m ρ hR K ιw c 3 _) $$ [HcS3 HO HaS3]
  · isplitr; · iexact HS
    isplitl [HcS3]; · iexact HcS3
    isplitl [HO]; · iexact HO
    iexact HaS3
  iintro ⟨HO, HaS3, Hs3⟩
  ihave Hs3 := (Entails.of_eq (show pay m ρ hR c (.send 3) = sendPay m ρ hR c 3 from rfl)) $$ Hs3
  -- the semaphores are spent, the buffers whole again
  imod (close_cell m ρ hR K ιw c .bar) $$ [HaB] with HaB
  · isplitr; · iexact HS
    iexact HaB
  imod (close_cell m ρ hR K ιw c .cpy) $$ [HaC] with HaC
  · isplitr; · iexact HS
    iexact HaC
  imod (close_cell m ρ hR K ιw c (.send 0)) $$ [HaS0] with HaS0
  · isplitr; · iexact HS
    iexact HaS0
  imod (close_cell m ρ hR K ιw c (.send 1)) $$ [HaS1] with HaS1
  · isplitr; · iexact HS
    iexact HaS1
  imod (close_cell m ρ hR K ιw c (.send 2)) $$ [HaS2] with HaS2
  · isplitr; · iexact HS
    iexact HaS2
  imod (close_cell m ρ hR K ιw c (.send 3)) $$ [HaS3] with HaS3
  · isplitr; · iexact HS
    iexact HaS3
  imod (close_cell m ρ hR K ιw c (.recv 0)) $$ [HaR0] with HaR0
  · isplitr; · iexact HS
    iexact HaR0
  imod (close_cell m ρ hR K ιw c (.recv 1)) $$ [HaR1] with HaR1
  · isplitr; · iexact HS
    iexact HaR1
  imod (close_cell m ρ hR K ιw c (.recv 2)) $$ [HaR2] with HaR2
  · isplitr; · iexact HS
    iexact HaR2
  imod (close_cell m ρ hR K ιw c (.recv 3)) $$ [HaR3] with HaR3
  · isplitr; · iexact HS
    iexact HaR3
  ihave Hs := (sb_split m ρ hR c).2 $$ [Hs0 Hz0 Hs1 Hz1 Hs2 Hz2 Hs3 Hz3]
  · isplitl [Hs0 Hz0]
    · isplitl [Hs0]; · iexact Hs0
      iexact Hz0
    isplitl [Hs1 Hz1]
    · isplitl [Hs1]; · iexact Hs1
      iexact Hz1
    isplitl [Hs2 Hz2]
    · isplitl [Hs2]; · iexact Hs2
      iexact Hz2
    isplitl [Hs3]; · iexact Hs3
    iexact Hz3
  ihave Hr := (land_join m ρ hR c) $$ [Hq0 Hq1 Hq2 Hq3]
  · isplitl [Hq0]; · iexact Hq0
    isplitl [Hq1]; · iexact Hq1
    isplitl [Hq2]; · iexact Hq2
    iexact Hq3
  icases Hr with ⟨%Wr, Hr⟩
  unfold wmPts
  imod (willBeTo_castOut_some (emb := EW) (ιwm := ιw) (E := Set.univ)) $$ [Hr] with Hr
  · isplitr; · iexact HWm
    iexact Hr
  rw [wp_ret]; imodintro
  iapply Hk
  unfold bodyPost Φ₁ scr anyAt
  rw [bigSep_kd]
  isplitl [Hs Hr Hv Hw HaB HaC HaS0 HaS1 HaS2 HaS3 HaR0 HaR1 HaR2 HaR3]
  · isplitl [Hs Hr Hv Hw]
    · isplitl [Hs]; · iexists _; iexact Hs
      isplitl [Hr]; · iexists _; iexact Hr
      isplitl [Hv]; · iexists _; iexact Hv
      iexists _; iexact Hw
    isplitl [HaB]; · iexact HaB
    isplitl [HaC]; · iexact HaC
    isplitl [HaS0]; · iexact HaS0
    isplitl [HaS1]; · iexact HaS1
    isplitl [HaS2]; · iexact HaS2
    isplitl [HaS3]; · iexact HaS3
    isplitl [HaR0]; · iexact HaR0
    isplitl [HaR1]; · iexact HaR1
    isplitl [HaR2]; · iexact HaR2
    iexact HaR3
  isplitl [HO]
  · ihave HO := (owes_done m ρ hR c _) $$ HO
    iexact HO
  isplitl [Hx]
  · iexists _; isplitr; · ipureintro; rfl
    iexact Hx
  isplitl [Hd]
  · iexists _; isplitr; · ipureintro; rfl
    iexact Hd
  iexists _; isplitr; · ipureintro; rfl
  iexact Hout

set_option maxRecDepth 4000 in
theorem body_obligation (c : Dev nD) : BodyObligation (dats m ρ hR 0 c) (defs₀ (F := F)) 𝒱₀ () Set.univ := fun t => by
  rw [fin_N t, bigSep_W, bigSep_W]
  simp only [owns_whole_eq]
  show bodyPre m ρ hR c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6) (fun _ => bodyPost m ρ hR c)
  iintro H
  iapply (sound_body m ρ hR c fun _ => bodyPost m ρ hR c)
  isplitl [H]; · iexact H
  iintro H; iexact H

end Cert.Exchange

end
-- ==== Proof.Launch.lean ====
/-
# The launch

Every device's share of the semaphores, tokens and invariants, dealt out at launch; and the run of all four devices.
-/
module

public import proofs.«01_k».proof.Proof.Body
public import Idealize.ShloMosaic.Lib.Pipeline.CollectiveSegs

@[expose] public section

noncomputable section

namespace Cert.Exchange

open Cert.KernelIdeal Cert.KernelIdeal.Gen Cert.Words
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

variable (m : (ℓ : Loc nD τ sig) → Buf (Elt F) ℓ) (ρ : Dev nD → PrngReg) (hR : InRange m ρ)

/-! ## The cells and what is funded -/

/-- The nine semaphores of the launch's own; the barrier's is the machine's. -/
def oks : Fin 9 → Kd := ![.cpy, .send 0, .send 1, .send 2, .send 3, .recv 0, .recv 1, .recv 2, .recv 3]
abbrev osem : Fin 9 → SemLoc sig := fun i => csem (oks i)

theorem ownSemFacts : Pipeline.OwnSemFacts cfg0.spec osem := by decide
theorem share_eq (c : Dev nD) (w : Fin cfg0.W) : (dats m ρ hR 0 c).share w = fullShare := by unfold Dat.share; split <;> rfl

def kcell (ck : Dev nD × Kd) : GSem nD τ sig := cell ck.1 ck.2
theorem kcell_injective : Function.Injective kcell := fun a b h => by
  obtain ⟨h1, h2⟩ := cell_eq_iff.mp h
  exact Prod.ext h1 h2
def ringCells : Finset (GSem nD τ sig) := Finset.univ.map ⟨kcell, kcell_injective⟩
def ringToks : Finset (GSem nD τ sig × ℕ × Unit) :=
  Finset.univ.map ⟨fun ck : Dev nD × Kd => (kcell ck, 0, ()), fun _ _ h => kcell_injective (congrArg Prod.fst h)⟩

def u₀ : UU F := (initOf (Pipeline.cells cfgs cellOf_inj) (Pipeline.launchToks cfgs cellOf_inj), (initOf ringCells ringToks, wm₀ nD τ sig (Elt F)))

def toks (c : Dev nD) : sProp 𝕄 := bigSep Finset.univ fun k : Kd => dutyTok ER (cell c k) 0 ()
def posns (c : Dev nD) : sProp 𝕄 := bigSep Finset.univ fun k : Kd => iprop(atPos ER (cell c k) 0 ∅ 0 ∗ reached ER (cell c k) 0)
def wmAny : sProp 𝕄 := iprop(∃ ιw : ℕ, wmInv EW ιw)
instance wmAny_persistent : BI.Persistent (wmAny (F := F)) := by unfold wmAny; infer_instance

def G (c : Dev nD) : sProp 𝕄 :=
  iprop(((bigSep Finset.univ fun k : Kd => roundState ER (Rd m ρ hR) (cell c k) 0) ∗ posns c ∗ toks c) ∗ wmAny)

omit [FloatOps F] in
theorem over_cells (Φ : GSem nD τ sig → sProp 𝕄) :
    bigSep ringCells Φ = bigSep Finset.univ fun c : Dev nD => bigSep Finset.univ fun k : Kd => Φ (cell c k) := by
  unfold ringCells; rw [bigSep_map, bigSep_univ_prod]; rfl
omit [FloatOps F] in
theorem over_toks : bigSep ringToks (fun x => (dutyTok ER x.1 x.2.1 x.2.2 : sProp 𝕄)) = bigSep Finset.univ fun c : Dev nD => toks c := by
  unfold ringToks toks; rw [bigSep_map, bigSep_univ_prod]; rfl

theorem fund_ring : BI.own ((ER (F := F)) (initOf ringCells ringToks))
    ⊢ (|==> bigSep Finset.univ fun c : Dev nD => iprop((bigSep Finset.univ fun k : Kd => roundState ER (Rd m ρ hR) (cell c k) 0) ∗ posns c ∗ toks c) : sProp 𝕄) := by
  iintro HX
  imod (Rounds.fund ER (Rd m ρ hR) ringCells ringToks) $$ HX with ⟨Hst, Hr, Hat, Htok⟩
  imodintro
  ihave Hst := (Entails.of_eq (over_cells fun g => roundState ER (Rd m ρ hR) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold posns; simp only [bigSep_sep']
  isplitl [Hst]; · iexact Hst
  isplitl [Hat Hr]
  · isplitl [Hat]; · iexact Hat
    iexact Hr
  iexact Htok

omit [FloatOps F] in
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem fund : (ownU (u₀ (F := F)) : sProp 𝕄)
    ⊢ |={Set.univ}=> iprop(BI.own (EP (initOf (Pipeline.cells cfgs cellOf_inj) (Pipeline.launchToks cfgs cellOf_inj))) ∗ bigSep Finset.univ (G m ρ hR)) := by
  unfold u₀
  iintro Hu
  ihave H := (ownU_pair _ _) $$ Hu
  icases H with ⟨HP, HX⟩
  ihave HX := (own_pair_emb embR _ _) $$ HX
  icases HX with ⟨HX, HW⟩
  imod (fund_ring m ρ hR) $$ HX with HG
  imod (show BI.own (((Emb.inr : Emb (WmRA nD τ sig (Elt F)) (UR sig nD τ × WmRA nD τ sig (Elt F))).trans embR) (wm₀ nD τ sig (Elt F)))
      ⊢ (|={Set.univ}=> ∃ ιwm : ℕ, ⌜ιwm ∉ (∅ : Finset ℕ)⌝ ∧ wmInv EW ιwm : sProp 𝕄) from wmInv_alloc (emb := EW) (s₀ m ρ)) $$ HW with ⟨%ιw, -, #HW⟩
  imodintro
  isplitl [HP]; · iexact HP
  iapply (with_all (R := wmAny (F := F)) (Φ := fun c : Dev nD => iprop((bigSep Finset.univ fun k : Kd => roundState ER (Rd m ρ hR) (cell c k) 0) ∗ posns c ∗ toks c))
    fun c _ => show _ ⊢ G m ρ hR c from by
      unfold G
      iintro ⟨H1, H2⟩
      isplitl [H2]; · iexact H2
      iexact H1)
  isplitr
  · unfold wmAny; iexists ιw; iexact HW
  iexact HG

/-! ## The invariants allocated, for all devices at once -/

omit [FloatOps F] in
theorem ownSems0_eq (c : Dev nD) : (Pipeline.ownSems0 (Ix := Unit) (Name := ℕ) (U := UU F) (Lvl := ℕ) (Val := Elt F) (τ := τ) osem c : sProp 𝕄)
    = iprop(semVal (cell c .cpy) 0 ∗ semVal (cell c (.send 0)) 0 ∗ semVal (cell c (.send 1)) 0 ∗ semVal (cell c (.send 2)) 0 ∗ semVal (cell c (.send 3)) 0
        ∗ semVal (cell c (.recv 0)) 0 ∗ semVal (cell c (.recv 1)) 0 ∗ semVal (cell c (.recv 2)) 0 ∗ semVal (cell c (.recv 3)) 0) := by
  rw [Pipeline.ownSems0_eq_of_list c osem [0, 1, 2, 3, 4, 5, 6, 7, 8] (by decide) (by decide)]; rfl

omit [FloatOps F] in
theorem unscopedSems0_eq (c : Dev nD) : (unscopedSems0 c : sProp 𝕄) = semVal (cell c .bar) 0 := by
  unfold unscopedSems0; rw [bigSep_eq_bigSepL_of_eq [csem .bar] (by decide) (by decide)]; rfl

omit [FloatOps F] in
theorem sems0_eq (c : Dev nD) :
    (iprop(unscopedSems0 c ∗ Pipeline.ownSems0 (Ix := Unit) (Name := ℕ) (U := UU F) (Lvl := ℕ) (Val := Elt F) (τ := τ) osem c) : sProp 𝕄)
      = bigSep Finset.univ fun k : Kd => semVal (cell c k) 0 := by
  rw [ownSems0_eq, unscopedSems0_eq, bigSep_kd]

def invsOf (c : Dev nD) : sProp 𝕄 := bigSep Finset.univ fun k : Kd => iprop(∃ κ : ℕ, cellInv ER (Rd m ρ hR) κ (cell c k))

theorem core_alloc (c : Dev nD) :
    iprop(Pipeline.ownSems0 (Ix := Unit) (Name := ℕ) (U := UU F) (Lvl := ℕ) (Val := Elt F) (τ := τ) osem c ∗ unscopedSems0 c ∗ G m ρ hR c)
      ⊢ |={Set.univ}=> iprop(invsOf m ρ hR c ∗ posns c ∗ toks c ∗ wmAny) := by
  unfold G invsOf
  iintro ⟨Hos, Hus, ⟨Hst, Hat, Htok⟩, Hw⟩
  ihave Hv := (Entails.of_eq (sems0_eq (F := F) c)) $$ [Hos Hus]
  · isplitl [Hus]; · iexact Hus
    iexact Hos
  imod (show iprop((bigSep Finset.univ fun k : Kd => semVal (cell c k) 0) ∗ bigSep Finset.univ fun k : Kd => roundState ER (Rd m ρ hR) (cell c k) 0)
      ⊢ (|={Set.univ}=> bigSep Finset.univ fun k => iprop(∃ κ : ℕ, cellInv ER (Rd m ρ hR) κ (cell c k)) : sProp 𝕄) from by
        rw [← bigSep_sep']
        exact (bigSep_mono fun k _ => (Rounds.body_intro ER (Rd m ρ hR) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hw

omit [FloatOps F] in
/-- The tokens for the barriers and receives go to the devices that pay with them. -/
theorem toks_around : (bigSep Finset.univ fun c : Dev nD => (toks c : sProp 𝕄)) ⊢ bigSep Finset.univ fun c : Dev nD => payToks c := by
  have h (c : Dev nD) : (toks c : sProp 𝕄) ⊢ iprop(dutyTok ER (cell c .bar) 0 () ∗ dutyTok ER (cell c .cpy) 0 ()
      ∗ (bigSep Finset.univ fun j : Fin 4 => dutyTok ER (cell c (.send j)) 0 ()) ∗ bigSep Finset.univ fun j : Fin 4 => dutyTok ER (cell c (.recv j)) 0 ()) := by
    unfold toks
    rw [bigSep_kd, bigSep_fin4, bigSep_fin4]
    iintro ⟨H0, H1, H2, H3, H4, H5, H6, H7, H8, H9⟩
    isplitl [H0]; · iexact H0
    isplitl [H1]; · iexact H1
    isplitl [H2 H3 H4 H5]
    · isplitl [H2]; · iexact H2
      isplitl [H3]; · iexact H3
      isplitl [H4]; · iexact H4
      iexact H5
    isplitl [H6]; · iexact H6
    isplitl [H7]; · iexact H7
    isplitl [H8]; · iexact H8
    iexact H9
  refine (bigSep_mono fun (c : Dev nD) _ => h c).trans ?_
  unfold payToks
  rw [bigSep_sep', bigSep_sep', bigSep_sep', bigSep_sep', bigSep_sep', bigSep_sep',
    bigSep_univ_equiv swap (fun c : Dev nD => (dutyTok ER (cell c .bar) 0 () : sProp 𝕄)),
    bigSep_univ_equiv swap (fun c : Dev nD => (bigSep Finset.univ fun j : Fin 4 => dutyTok ER (cell c (.recv j)) 0 () : sProp 𝕄))]
  exact BI.Entails.refl _

def invAt (ck : Dev nD × Kd) (κ : ℕ) : sProp 𝕄 := cellInv ER (Rd m ρ hR) κ (cell ck.1 ck.2)
abbrev reachedAt (ck : Dev nD × Kd) : sProp 𝕄 := reached ER (cell ck.1 ck.2) 0

theorem ghost_of (K : Dev nD × Kd → ℕ) (c : Dev nD) : iprop((records m ρ hR K ∗ wmAny) ∗ linear c) ⊢ ghost m ρ hR c := by
  unfold wmAny ghost
  iintro ⟨⟨H1, ⟨%ιw, H2⟩⟩, H3⟩
  iexists K; iexists ιw
  isplitl [H1]; · iexact H1
  isplitl [H2]; · iexact H2
  iexact H3

theorem regroup : (bigSep Finset.univ fun c : Dev nD => iprop(invsOf m ρ hR c ∗ posns c ∗ toks c ∗ wmAny) : sProp 𝕄)
    ⊢ bigSep Finset.univ (ghost m ρ hR) := by
  have hI : (bigSep Finset.univ fun c : Dev nD => invsOf m ρ hR c : sProp 𝕄)
      = bigSep Finset.univ fun ck : Dev nD × Kd => iprop(∃ κ : ℕ, invAt m ρ hR ck κ) := by
    unfold invsOf; rw [bigSep_univ_prod]; rfl
  have hP : (bigSep Finset.univ fun c : Dev nD => posns c : sProp 𝕄)
      = iprop((bigSep Finset.univ fun c : Dev nD => bigSep Finset.univ fun k : Kd => atPos ER (cell c k) 0 ∅ 0) ∗ bigSep Finset.univ fun ck : Dev nD × Kd => reachedAt ck) := by
    unfold posns
    rw [bigSep_congr (s := Finset.univ) (fun (c : Dev nD) _ => bigSep_sep' Finset.univ (fun k : Kd => (atPos ER (cell c k) 0 ∅ 0 : sProp 𝕄)) (fun k => reached ER (cell c k) 0)),
      bigSep_sep', bigSep_univ_prod (fun ck : Dev nD × Kd => (reachedAt ck : sProp 𝕄))]
  have hw : (bigSep Finset.univ fun _ : Dev nD => wmAny (F := F)) ⊢ wmAny := bigSep_elim (Finset.mem_univ (0 : Dev nD))
  rw [bigSep_sep', bigSep_sep', bigSep_sep', hI, hP]
  iintro ⟨HI, ⟨Hat, HR⟩, Htok, HW⟩
  ihave #HR := (Entails.of_eq (show (bigSep Finset.univ fun ck : Dev nD × Kd => (reachedAt ck : sProp 𝕄))
    = bigSep Finset.univ fun ck : Dev nD × Kd => reached ER (cell ck.1 ck.2) 0 from rfl)) $$ HR
  ihave #HW := hw $$ HW
  ihave HK := (BI.bigSep_exists_pi Finset.univ (fun (ck : Dev nD × Kd) (κ : ℕ) => invAt m ρ hR ck κ)) $$ HI
  icases HK with ⟨%K, HI⟩
  ihave #HI := (Entails.of_eq (show (bigSep Finset.univ fun ck : Dev nD × Kd => invAt m ρ hR ck (K ck))
    = bigSep Finset.univ fun ck : Dev nD × Kd => cellInv ER (Rd m ρ hR) (K ck) (cell ck.1 ck.2) from rfl)) $$ HI
  ihave Htk := (toks_around (F := F)) $$ Htok
  iapply (with_all (R := iprop(records m ρ hR K ∗ wmAny)) (Φ := fun c : Dev nD => linear c) fun c _ => ghost_of m ρ hR K c)
  isplitr
  · isplitr
    · unfold records; isplitr; · iexact HI
      iexact HR
    · iexact HW
  · unfold linear
    rw [bigSep_sep']
    isplitl [Hat]; · iexact Hat
    iexact Htk

theorem glob : (bigSep Finset.univ fun c => iprop(Pipeline.ownSems0 (Ix := Unit) (Name := ℕ) (U := UU F) (Lvl := ℕ) (Val := Elt F) (τ := τ) osem c ∗ unscopedSems0 c ∗ G m ρ hR c) : sProp 𝕄)
    ⊢ |={Set.univ}=> bigSep Finset.univ (ghost m ρ hR) :=
  ((bigSep_mono fun c _ => core_alloc m ρ hR c).trans (bigSep_fupd _ _)).trans (BI.fupd_mono (regroup m ρ hR))

/-! ## The credit at launch -/

theorem peer_eq_iff {d c : Dev nD} : peer d = c ↔ d = peer c :=
  ⟨fun h => by rw [← h, peer_peer], fun h => by rw [h, peer_peer]⟩

theorem tally_cell (d c : Dev nD) (k k' : Kd) (n : ℕ) : (tallyAt (cell (peer d) k) () n : CellTallies nD τ sig Unit) (cell c k') ()
    = if d = peer c ∧ k = k' then n else 0 := by
  rw [tallyAt_apply]
  refine if_congr ?_ rfl rfl
  constructor
  · rintro ⟨h, -⟩; obtain ⟨h1, h2⟩ := cell_eq_iff.mp h; exact ⟨peer_eq_iff.mp h1.symm, h2.symm⟩
  · rintro ⟨rfl, rfl⟩; rw [peer_peer]; exact ⟨rfl, rfl⟩

theorem owed_bar (d c : Dev nD) : O₀ d (cell c .bar) () = if d = peer c then 1 else 0 := by
  simp only [O₀, O₁, owe, Pi.add_apply, Finsupp.add_apply, Pi.zero_apply, Finsupp.zero_apply, tally_cell, reduceCtorEq, and_false, if_false, and_true, Nat.zero_add]

theorem owed_recv (d c : Dev nD) (j : Fin 4) : O₀ d (cell c (.recv j)) () = if d = peer c then N else 0 := by
  simp only [O₀, O₁, owe, Pi.add_apply, Finsupp.add_apply, Pi.zero_apply, Finsupp.zero_apply, tally_cell, reduceCtorEq, and_false, if_false, Nat.zero_add, Nat.add_zero,
    Kd.recv.injEq]
  by_cases h : d = peer c
  · simp only [h, true_and, if_true]; fin_cases j <;> rfl
  · simp only [h, false_and, if_false]

theorem launch_cell (c : Dev nD) (k : Kd) (n : ℕ) (h : ∀ d, O₀ d (cell c k) () = if d = peer c then n else 0) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

omit [FloatOps F] in
theorem creds (c : Dev nD) : (Pipeline.launchCred O₀ c : sProp 𝕄) ⊢ credits c := by
  unfold Pipeline.launchCred credits
  have hsub : ({csem .bar, csem (.recv 0), csem (.recv 1), csem (.recv 2), csem (.recv 3)} : Finset (SemLoc sig)) ⊆ Finset.univ := Finset.subset_univ _
  refine (bigSep_subset hsub).trans ?_
  rw [bigSep_eq_bigSepL_of_eq [csem .bar, csem (.recv 0), csem (.recv 1), csem (.recv 2), csem (.recv 3)] (by decide) (by decide), bigSep_fin4,
    ← launch_cell c .bar 1 (fun d => owed_bar d c), ← launch_cell c (.recv 0) N (fun d => owed_recv d c 0), ← launch_cell c (.recv 1) N (fun d => owed_recv d c 1),
    ← launch_cell c (.recv 2) N (fun d => owed_recv d c 2), ← launch_cell c (.recv 3) N (fun d => owed_recv d c 3)]
  exact BI.Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ hR c)
      ⊢ |={Set.univ}=> iprop(start m ρ hR c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ hR c ∗ Pipeline.prefHeld Pipeline.Prefetch.none c (fun _ => fullShare.right) (fun k => k.elim0) ∗ Pipeline.scopedRest cfg0.spec c)
      ⊢ (dats m ρ hR 0 c).Φ 0 := by
  rw [show (dats m ρ hR 0 c).Φ 0 = Φ₀ m ρ hR c from rfl, scopedRest0_eq]
  unfold Φ₀ scr anyAt
  iintro ⟨Hs, -, Hr⟩
  isplitl [Hs]; · iexact Hs
  iexact Hr

theorem phi1_exit (c : Dev nD) :
    (dats m ρ hR 0 c).Φ (Fin.last cfg0.N) ⊢ iprop(unscopedSems0 c ∗ Pipeline.ownSems0 osem c ∗ Pipeline.scopedRest cfg0.spec c) := by
  rw [show (dats m ρ hR 0 c).Φ (Fin.last cfg0.N) = Φ₁ c from rfl, scopedRest0_eq]
  unfold Φ₁ scr anyAt
  iintro ⟨Hr, Hz⟩
  ihave Hz := (Entails.of_eq (sems0_eq (F := F) c).symm) $$ Hz
  icases Hz with ⟨H1, H2⟩
  isplitl [H1]; · iexact H1
  isplitl [H2]; · iexact H2
  iexact Hr

theorem stage_low : ∀ (w : Fin cfg0.W) (s : Fin (cfg0.spec w).nbuf), kindOf (.dma ((cfg0.spec w).sem s)) = none := by decide

theorem waits (c : Dev nD) : (levAts L lv : sProp 𝕄) ⊢ Pipeline.cellsWaits cfgs (dats m ρ hR) () 0 c :=
  Pipeline.cellsWaits_intro cfgs (dats m ρ hR) () 0 c fun w s t =>
    mayWait_low c _ (by unfold lv; rw [show kindOf _ = none from stage_low w s]; rfl) _ (by
      rcases t with ⟨_ | _, ht⟩
      · exact .inl rfl
      · exact .inr (.inr rfl))

/-! ## The run -/

def finalA (c : Dev nD) (w : Fin cfg0.W) : Buf (Elt F) ((cfg0.win w).arr.view.loc (c : Thread nD τ)) := (dats m ρ hR 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ hR c w

set_option maxRecDepth 8000 in
/-- At the 2 × 2 mesh, for any float values, from any memory with zero counters and counts in range: every fair execution
    of the program ends, each device's result holds what `outAt` computes, and every semaphore counts zero. -/
theorem run_main : θ_run defs (onTc (τ := τ) (main (F := F))) (s₀ m ρ) (fun r => QC m ρ hR r ∧ r.2.sem = fun _ => 0) :=
  Pipeline.θ_run_region_owing_glob_pf (fun p => (cfgs p).toPCfg) (fun p => (cfgs p).toPCfg_adm) (dats m ρ hR) () cellOf_inj (0 : Fin 1)
    winFacts0.to₀ ownSemFacts (Pipeline.PreFacts.none _) EP defs₀ 𝒱₀ m ρ main
    (hmain := fun _ => rfl)
    (hbody := fun c => (body_obligation m ρ hR c).loose) (hne := fun w => by fin_cases w <;> exact Nat.succ_pos _) (harr := arr_whole0) (hstage := stage_whole0)
    (hshare := share_eq m ρ hR) (hdistinct := winFacts0.arr_inj)
    (O₀ := O₀) (howed₀ := fun _ => rfl) (howedN := fun _ => rfl)
    (L := L) (lv := lv) (hL := L_of_ne) (hwaits := waits m ρ hR)
    (G := G m ρ hR) (G' := ghost m ρ hR) (u₀ := u₀)
    (hu₀ := fund m ρ hR)
    (hglob := glob m ρ hR)
    (hA := fun _ _ => rfl) (hpf := fun _ k => k.elim0)
    (X := start m ρ hR) (Y := fun c => unscopedSems0 c) (Z := fun _ => iprop(emp))
    (hX := start_intro m ρ hR) (hin := phi0_intro m ρ hR) (hout := phi1_exit m ρ hR)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

theorem finalA_x (c : Dev nD) : finalA m ρ hR c (0 : Fin 3) = (s₀ m ρ).mem (win0_0.arr.view.loc (c : Thread nD τ)) :=
  (dats m ρ hR 0 c).arrAt_in (0 : Fin 3) rfl _
theorem finalA_d (c : Dev nD) : finalA m ρ hR c (1 : Fin 3) = (s₀ m ρ).mem (win0_1.arr.view.loc (c : Thread nD τ)) :=
  (dats m ρ hR 0 c).arrAt_in (1 : Fin 3) rfl _

end Cert.Exchange

end
-- ==== Proof.Frames.lean ====
/-
# The frames

The precondition bounds each device's count; the run then gives the frames of both programs.
-/
module

public import proofs.«01_k».proof.Defs
public import proofs.«01_k».proof.Proof.Gen.Kernel
public import proofs.«01_k».proof.Proof.Gen.ReferenceIdeal
public import proofs.«01_k».proof.Proof.Gen.Pre_sendable_Kernel
public import proofs.«01_k».proof.Proof.Gen.Pre_sendable_ReferenceIdeal
public import proofs.«01_k».proof.Proof.Counts
public import proofs.«01_k».proof.Proof.Launch
public import proofs.«01_k».proof.Proof.Gen.ReferenceIdeal.Run

@[expose] public section

noncomputable section

namespace Cert.Frames

open Cert.KernelIdeal Cert.KernelIdeal.Gen Cert.Exchange Cert.Counts
open Idealize.ShloMosaic Idealize.ShloMosaic.TcCoe Idealize.SL.Sem

variable {F : FTy → Type} [FloatOps F]

theorem dstg_eq (m : (ℓ : Loc nD τ sig) → Buf (Elt F) ℓ) (ρ : Dev nD → PrngReg) (c : Dev nD) : dstg m ρ c = m ((c : Thread nD τ).loc main_arg1) := by
  refine funext fun i => ?_
  show m ((c : Thread nD τ).loc main_arg1) ((win0_1.blk (0 : Fin 1)).view.emb i) = m ((c : Thread nD τ).loc main_arg1) i
  refine congrArg _ (funext fun a => Fin.ext ?_)
  match a with
  | ⟨0, _⟩ => exact (Nat.zero_add _).trans (Nat.one_mul _)
  | ⟨1, _⟩ => exact (Nat.zero_add _).trans (Nat.one_mul _)

theorem xstg_eq (m : (ℓ : Loc nD τ sig) → Buf (Elt F) ℓ) (ρ : Dev nD → PrngReg) (c : Dev nD) : xstg m ρ c = m ((c : Thread nD τ).loc main_arg0) := by
  refine funext fun i => ?_
  show m ((c : Thread nD τ).loc main_arg0) ((win0_0.blk (0 : Fin 1)).view.emb i) = m ((c : Thread nD τ).loc main_arg0) i
  refine congrArg _ (funext fun a => Fin.ext ?_)
  match a with
  | ⟨0, _⟩ => exact (Nat.zero_add _).trans (Nat.one_mul _)
  | ⟨1, _⟩ => exact (Nat.zero_add _).trans (Nat.one_mul _)

/-- The word a device computes is its number of zeros. -/
theorem word_toNat (m : (ℓ : Loc nD τ sig) → Buf (Elt F) ℓ) (ρ : Dev nD → PrngReg) (c : Dev nD) : (word m ρ c).toNat = cz (dstg m ρ c) 1024 :=
  total7_at (F := F) (dstg m ρ c) _

def two (k : Fin 2) : Cert.Pre_sendable_Kernel.S2.Idx
  | ⟨0, _⟩ => k
def only : Cert.Pre_sendable_Kernel.S1.Idx
  | ⟨0, _⟩ => (0 : Fin 1)

theorem pre_bounds (x : FVec F S1024x512 .bf16) (d : IVec S1x1024 32) (h : Cert.Pre_sendable_Kernel.fn (F := F) x d = fun _ => 1#1) :
    121 ≤ cz d 1024 ∧ cz d 1024 ≤ 903 := by
  have hn : cz d 1024 ≤ 1024 := cz_le d 1024
  have e : ∀ j, Host.reduce IntOp.addi (fun i => (IntOp.cmpi .eq (d i) 0#32).setWidth 32) (constantI S_ 32 0#32)
      Cert.Pre_sendable_Kernel.Gen.reducesTo_S1x1024_S_d0_1 Cert.Pre_sendable_Kernel.Gen.h_S_ j = BitVec.ofNat 32 (cz d 1024) := fun j => by
    rw [reduce_count _ _ _ _ j (fun i => funext fun a => a.elim0) rfl (fun i => d i = 0#32) (fun i => one_if (d i)), card_zeros]
  constructor
  · have h0 := congrFun h (two 0)
    unfold Cert.Pre_sendable_Kernel.fn at h0
    have h1 := (concatenate_pair_apply_left (t := Cert.Pre_sendable_Kernel.S2) (s₁ := Cert.Pre_sendable_Kernel.S1) (s₂ := Cert.Pre_sendable_Kernel.S1)
      0 _ _ _ _ rfl only (fun b => by match b with | ⟨0, _⟩ => rfl)).symm.trans h0
    have h2 : BitVec.ofBool ((121#32).sle (BitVec.ofNat 32 (cz d 1024))) = 1#1 := by rw [← e (fun a => a.elim0)]; exact h1
    rw [sle_small (by decide) (by rw [BitVec.toNat_ofNat]; omega), BitVec.toNat_ofNat, BitVec.toNat_ofNat] at h2
    have h3 : decide (121 % 2 ^ 32 ≤ cz d 1024 % 2 ^ 32) = true := by revert h2; cases decide (121 % 2 ^ 32 ≤ cz d 1024 % 2 ^ 32) <;> decide
    have := of_decide_eq_true h3
    omega
  · have h0 := congrFun h (two 1)
    unfold Cert.Pre_sendable_Kernel.fn at h0
    have h1 := (concatenate_pair_apply_right (t := Cert.Pre_sendable_Kernel.S2) (s₁ := Cert.Pre_sendable_Kernel.S1) (s₂ := Cert.Pre_sendable_Kernel.S1)
      0 _ _ _ _ rfl rfl only (fun b hb => absurd (Subsingleton.elim (α := Fin 1) _ _) hb) rfl).symm.trans h0
    have h2 : BitVec.ofBool ((BitVec.ofNat 32 (cz d 1024)).sle 903#32) = 1#1 := by rw [← e (fun a => a.elim0)]; exact h1
    rw [sle_small (by rw [BitVec.toNat_ofNat]; omega) (by decide), BitVec.toNat_ofNat, BitVec.toNat_ofNat] at h2
    have h3 : decide (cz d 1024 % 2 ^ 32 ≤ 903 % 2 ^ 32) = true := by revert h2; cases decide (cz d 1024 % 2 ^ 32 ≤ 903 % 2 ^ 32) <;> decide
    have := of_decide_eq_true h3
    omega

theorem inRange (m : (ℓ : Loc nD τ sig) → Buf (Elt F) ℓ) (ρ : Dev nD → PrngReg)
    (h : ∀ c : Dev nD, Cert.Pre_sendable_Kernel.fn (F := F) (m ((c : Thread nD τ).loc main_arg0)) (m ((c : Thread nD τ).loc main_arg1)) = fun _ => 1#1) :
    InRange m ρ := fun c => by
  rw [word_toNat, dstg_eq]; exact pre_bounds _ _ (h c)

/-- The run leaves the arguments as they were and every semaphore at zero, for any float values. -/
theorem frame_any (m : (ℓ : Loc nD τ sig) → Buf (Elt F) ℓ) (ρ : Dev nD → PrngReg) (hR : InRange m ρ) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (finalA_x m ρ hR c), (h.1 c (1 : Fin 3)).trans (finalA_d m ρ hR c)⟩, h.2⟩)
    (run_main m ρ hR)

/-! The two programs have one text: their bodies are one function, and so are their body tables. -/

theorem body_eq : Cert.Kernel.cc0_body (F := Bits) = cc0_body (F := Bits) := rfl

theorem row_eq (t : Fin grid0.N) (s : (w : Fin cfg0.W) → Fin (cfg0.spec w).nbuf) :
    Cert.Kernel.defs₀ (F := Bits) .tc 0 (t, s) = defs₀ (F := Bits) .tc 0 (t, s) :=
  congrArg (fun f => f (win0_0.stage (s 0)) (hstage0_0 0) (win0_1.stage (s 1)) (hstage0_1 0) (win0_2.stage (s 2)) (hstage0_2 0)
    (Memref.whole cc0_scratch0) (Memref.isWhole_whole _) (Memref.whole cc0_scratch1) (Memref.isWhole_whole _) (Memref.whole cc0_scratch2)
    (Memref.isWhole_whole _) (Memref.whole cc0_scratch3) (Memref.isWhole_whole _) cc0_scratch4 cc0_scratch5 cc0_scratch6) body_eq

theorem table_eq : Cert.Kernel.defs₀ (F := Bits) = defs₀ (F := Bits) := by
  funext p ℓ a
  match p with
  | .tc =>
    match ℓ, a with
    | 0, (t, s) => exact row_eq t s
    | ⟨_ + 1, h⟩, _ => exact absurd h (Nat.not_lt.2 (Nat.le_add_left _ _))
  | .scScalar _ => rfl
  | .scVector _ _ => rfl

theorem defs_eq : Cert.Kernel.defs (F := Bits) = defs (F := Bits) := congrArg (Pipeline.defs pcfgs) table_eq

theorem frame_kernel : Cert.quiescent_Kernel := fun m ρ hP => by
  rw [defs_eq]
  exact frame_any (F := Bits) m ρ (inRange (F := Bits) m ρ hP)

theorem frame_kernelIdeal : Cert.quiescent_KernelIdeal := fun m ρ hP => frame_any (F := Ideal) m ρ (inRange (F := Ideal) m ρ hP)

/-- The reference has no counters. -/
theorem sem_empty (x : SemLoc Cert.ReferenceIdeal.sig) : False := by revert x; decide

theorem frame_reference : Cert.quiescent_ReferenceIdeal := fun m ρ _ =>
  (θ_run Cert.ReferenceIdeal.defs _ _).mono (fun r h => ⟨fun c => (h c).2, funext fun x => (sem_empty x.2).elim⟩) (Cert.ReferenceIdeal.Value.run (F := Ideal) m ρ)

theorem frame_reference_pre : Cert.quiescent_ReferenceIdeal_pre_sendable_ReferenceIdeal := fun m ρ _ => frame_reference m ρ trivial

end Cert.Frames

end
-- ==== Proof.Places.lean ====
/-
# Places of a stable partition

Positions below `n` are partitioned: those of a set first, the others after, each in its own order.
-/
module

public import Idealize.ShloMosaic.Lib.SortFacts
public import Mathlib.Data.Nat.Count
public import Mathlib.Data.Fintype.EquivFin

@[expose] public section

namespace Cert.Places

open Idealize.ShloMosaic

variable (Z : ℕ → Prop) [DecidablePred Z]

/-- The place of position `i` among `n`. -/
def place (n i : ℕ) : ℕ := if Z i then Nat.count Z i else Nat.count Z n + (i - Nat.count Z i)

theorem place_pos {n i : ℕ} (h : Z i) : place Z n i = Nat.count Z i := if_pos h
theorem place_neg {n i : ℕ} (h : ¬ Z i) : place Z n i = Nat.count Z n + (i - Nat.count Z i) := if_neg h

theorem count_le (i : ℕ) : Nat.count Z i ≤ i := Nat.count_le Z

theorem rest_mono {i j : ℕ} (h : i ≤ j) : i - Nat.count Z i ≤ j - Nat.count Z j := by
  induction j, h using Nat.le_induction with
  | base => exact le_rfl
  | succ j hj ih =>
    have := count_le Z j
    rw [Nat.count_succ]
    split <;> omega

theorem rest_lt {i j : ℕ} (hi : ¬ Z i) (h : i < j) : i - Nat.count Z i < j - Nat.count Z j := by
  have h1 := rest_mono Z (i := i + 1) (j := j) h
  have h2 := count_le Z i
  rw [Nat.count_succ, if_neg hi] at h1
  omega

theorem place_lt {n i : ℕ} (h : i < n) : place Z n i < n := by
  have h1 := count_le Z n
  by_cases hz : Z i
  · rw [place_pos Z hz]
    exact lt_of_lt_of_le (Nat.count_strict_mono hz h) h1
  · rw [place_neg Z hz]
    have := rest_lt Z hz h
    omega

theorem place_inj {n i j : ℕ} (hi : i < n) (hj : j < n) (h : place Z n i = place Z n j) : i = j := by
  by_cases zi : Z i <;> by_cases zj : Z j
  · rw [place_pos Z zi, place_pos Z zj] at h
    exact Nat.count_injective zi zj h
  · rw [place_pos Z zi, place_neg Z zj] at h
    have := Nat.count_strict_mono zi hi
    omega
  · rw [place_neg Z zi, place_pos Z zj] at h
    have := Nat.count_strict_mono zj hj
    omega
  · rw [place_neg Z zi, place_neg Z zj] at h
    rcases Nat.lt_trichotomy i j with h' | h' | h'
    · have := rest_lt Z zi h'; omega
    · exact h'
    · have := rest_lt Z zj h'; omega

/-- Every place is some position's. -/
theorem place_surj {n r : ℕ} (h : r < n) : ∃ i, i < n ∧ place Z n i = r := by
  have hinj : Function.Injective fun i : Fin n => (⟨place Z n i.val, place_lt Z i.isLt⟩ : Fin n) := fun i j e =>
    Fin.ext (place_inj Z i.isLt j.isLt (congrArg Fin.val e))
  obtain ⟨i, hi⟩ := (Finite.injective_iff_surjective.mp hinj) ⟨r, h⟩
  exact ⟨i.val, i.isLt, congrArg Fin.val hi⟩

/-! ## The stable sort is the partition -/

section sort
variable {ι : Type} (P : ι → Bool)

theorem insert_split (a : ι) (l m : List ι) (hl : ∀ b ∈ l, P b = true) (hm : ∀ b ∈ m, P b = false) :
    insertBefore (fun b c => P b && !P c) a (l ++ m) = if P a then a :: (l ++ m) else l ++ a :: m := by
  cases ha : P a with
  | true =>
    rw [if_pos rfl]
    cases h : l ++ m with
    | nil => rfl
    | cons b t => show (if (P b && !P a) = true then _ else _) = _; rw [ha, Bool.not_true, Bool.and_false]; rfl
  | false =>
    rw [if_neg (by decide)]
    induction l with
    | nil =>
      cases m with
      | nil => rfl
      | cons b t =>
        show (if (P b && !P a) = true then _ else _) = _
        rw [hm b List.mem_cons_self]; rfl
    | cons b t ih =>
      show (if (P b && !P a) = true then b :: insertBefore _ a (t ++ m) else _) = _
      rw [hl b List.mem_cons_self, ha, ih fun c hc => hl c (List.mem_cons_of_mem b hc)]; rfl

theorem stableSort_split (l : List ι) : stableSort (fun b c => P b && !P c) l = l.filter P ++ l.filter fun b => !P b := by
  induction l with
  | nil => rfl
  | cons a l ih =>
    unfold stableSort
    rw [ih, insert_split P a _ _ (fun b hb => (List.mem_filter.mp hb).2) (fun b hb => by simpa using (List.mem_filter.mp hb).2)]
    cases ha : P a <;> simp [List.filter_cons, ha]

end sort

theorem length_filter_take (n i : ℕ) (h : i ≤ n) : (((List.finRange n).take i).filter fun a => decide (Z a.val)).length = Nat.count Z i := by
  induction i with
  | zero => rfl
  | succ i ih =>
    rw [List.take_succ_eq_append_getElem (by rw [List.length_finRange]; exact h), List.filter_append, List.length_append, ih (by omega), Nat.count_succ,
      List.getElem_finRange]
    congr 1
    by_cases hz : Z i <;> simp [hz]

theorem length_filter_take_not (n i : ℕ) (h : i ≤ n) : (((List.finRange n).take i).filter fun a => !decide (Z a.val)).length = i - Nat.count Z i := by
  have h1 := List.length_eq_length_filter_add (l := (List.finRange n).take i) (fun a => decide (Z a.val))
  rw [length_filter_take Z n i h, List.length_take, List.length_finRange, Nat.min_eq_left h] at h1
  omega

theorem finRange_split {n : ℕ} (g : Fin n) : List.finRange n = (List.finRange n).take g.val ++ g :: (List.finRange n).drop (g.val + 1) := by
  have h : g.val < (List.finRange n).length := by rw [List.length_finRange]; exact g.isLt
  conv_lhs => rw [← List.take_append_drop g.val (List.finRange n), List.drop_eq_getElem_cons h, List.getElem_finRange]
  rfl

/-- A stable sort that puts the set before the rest lists position `g` at its place. -/
theorem sorted_place {n : ℕ} (g : Fin n) (k : Fin n) (hk : k.val = place Z n g.val) :
    sortedFrom (fun a b : Fin n => decide (Z a.val) && !decide (Z b.val)) k = g := by
  unfold sortedFrom
  rw [List.get_eq_getElem]
  have e : sortPositions n (fun a b : Fin n => decide (Z a.val) && !decide (Z b.val))
      = (List.finRange n).filter (fun a => decide (Z a.val)) ++ (List.finRange n).filter fun a => !decide (Z a.val) :=
    stableSort_split (fun a : Fin n => decide (Z a.val)) (List.finRange n)
  refine Option.some.inj ?_
  rw [← List.getElem?_eq_getElem]
  show (sortPositions n fun a b : Fin n => decide (Z a.val) && !decide (Z b.val))[k.val]? = _
  rw [e]
  have hall := length_filter_take Z n n le_rfl
  rw [List.take_of_length_le (by rw [List.length_finRange])] at hall
  by_cases hz : Z g.val
  · rw [hk, place_pos Z hz]
    conv_lhs => rw [finRange_split g]
    rw [List.filter_append, List.filter_cons_of_pos (by simpa using hz), List.append_assoc,
      List.getElem?_append_right (by rw [length_filter_take Z n _ g.isLt.le]), length_filter_take Z n _ g.isLt.le, Nat.sub_self]
    rfl
  · rw [hk, place_neg Z hz, List.getElem?_append_right (by rw [hall]; omega), hall, Nat.add_sub_cancel_left]
    conv_lhs => rw [finRange_split g]
    rw [List.filter_append, List.filter_cons_of_pos (by simpa using hz),
      List.getElem?_append_right (by rw [length_filter_take_not Z n _ g.isLt.le]), length_filter_take_not Z n _ g.isLt.le, Nat.sub_self]
    rfl

end Cert.Places

end
-- ==== Proof.Sorted.lean ====
/-
# The sorted buffer

The kernel's product with a matrix of zeros and ones moves each of a device's rows to its place: those with destination `0`
first, the others after, each in their own order.
-/
module

public import proofs.«01_k».proof.Proof.Counts
public import proofs.«01_k».proof.Proof.Places
public import Idealize.ShloMosaic.Lib.MatmulPlain

@[expose] public section

noncomputable section

namespace Cert.Sorted

open Cert.KernelIdeal Cert.KernelIdeal.Gen
open Idealize.ShloMosaic Cert.Counts Cert.Places

/-! ## Ones and zeros -/

/-- A comparison of words as a float: one where they agree, zero elsewhere. -/
theorem hot (a b : BitVec 32) : ((((IntOp.cmpi .eq a b).setWidth 32).toInt : ℝ) : EReal) = if a = b then 1 else 0 := by
  show ((((BitVec.ofBool (a == b)).setWidth 32).toInt : ℝ) : EReal) = _
  by_cases h : a = b
  · rw [if_pos h, beq_iff_eq.mpr h, show ((BitVec.ofBool true).setWidth 32).toInt = 1 by decide]; simp
  · rw [if_neg h, beq_eq_false_iff_ne.mpr h, show ((BitVec.ofBool false).setWidth 32).toInt = 0 by decide]; simp

/-- A sum against a row of a matrix with a single one picks that row. -/
theorem pick {n : ℕ} (p : Fin n → Prop) [DecidablePred p] (x : Fin n → EReal) (i : Fin n) (hi : ∀ k, p k ↔ k = i) :
    ∑ k : Fin n, (if p k then (1 : EReal) else 0) * x k = x i := by
  rw [Finset.sum_eq_single i (fun k _ hk => by rw [if_neg fun h => hk ((hi k).mp h), zero_mul]) fun h => absurd (Finset.mem_univ i) h,
    if_pos ((hi i).mpr rfl), one_mul]

theorem pick_none {n : ℕ} (p : Fin n → Prop) [DecidablePred p] (x : Fin n → EReal) (h : ∀ k, p k → x k = 0) :
    ∑ k : Fin n, (if p k then (1 : EReal) else 0) * x k = 0 :=
  Finset.sum_eq_zero fun k _ => by
    by_cases hk : p k
    · rw [h k hk, mul_zero]
    · rw [if_neg hk, zero_mul]

/-! ## The places as words -/

section places
variable {F : FTy → Type} [FloatOps F] (d : IVec S1x1024 32)

/-- The word the kernel computes for each column: the row its token goes to. -/
def posw : IVec S1x1024 32 :=
  let p5 := k0_pay5 lane (k0_pay4 lane (k0_pay3 (F := F) d))
  let p2 := k0_pay2 (F := F) d
  select (cmpi .eq p2 (broadcast S1x1024 1#32)) (subi p5 p2)
    (subi (addi (broadcastTo S1x1024 (k0_pay6 lane (k0_pay4 lane (k0_pay3 (F := F) d))) broadcasts_S1x1_S1x1024) lane) (subi p5 p2))

theorem flag_at (k : Fin 1024) : k0_pay2 (F := F) d (lix k) = if d (lix k) = 0#32 then 1#32 else 0#32 := by
  show (IntOp.cmpi .eq (shapeCast S1x1024 d shapeCasts_S1x1024_S1x1024 (lix k)) 0#32).setWidth 32 = _
  rw [shapeCast_self, one_if]

theorem total_word (k : Fin 1024) : (broadcastTo S1x1024 (k0_pay6 lane (k0_pay4 lane (k0_pay3 (F := F) d))) broadcasts_S1x1_S1x1024 (lix k)).toNat = cz d 1024 :=
  total_at (F := F) d _

theorem posw_at (k : Fin 1024) : posw (F := F) d (lix k) = BitVec.ofNat 32 (place (Zer d) 1024 k.val) := by
  have hk := k.isLt
  have hc := counts_at (F := F) d k
  have ht := total_word (F := F) d k
  have hf := flag_at (F := F) d k
  have hl := lane_at k
  have h1 := cz_succ d k.val
  have h2 := cz_le d 1024
  have h3 := cz_le d k.val
  show Scalar.select (BitVec.ofBool (k0_pay2 (F := F) d (lix k) == 1#32))
      (k0_pay5 lane (k0_pay4 lane (k0_pay3 (F := F) d)) (lix k) - k0_pay2 (F := F) d (lix k))
      (broadcastTo S1x1024 (k0_pay6 lane (k0_pay4 lane (k0_pay3 (F := F) d))) broadcasts_S1x1_S1x1024 (lix k) + lane (lix k)
        - (k0_pay5 lane (k0_pay4 lane (k0_pay3 (F := F) d)) (lix k) - k0_pay2 (F := F) d (lix k))) = _
  rw [hf, hl, select_ofBool]
  apply BitVec.eq_of_toNat_eq
  by_cases hz : Zer d k.val
  · rw [if_pos ((zer_iff d k).mp hz), if_pos (by decide), place_pos _ hz]
    rw [if_pos hz] at h1
    rw [BitVec.toNat_sub, hc, BitVec.toNat_ofNat, BitVec.toNat_ofNat]
    show _ = cz d k.val % _
    omega
  · rw [if_neg fun h => hz ((zer_iff d k).mpr h), if_neg (by decide), place_neg _ hz]
    rw [if_neg hz] at h1
    rw [BitVec.toNat_sub, BitVec.toNat_sub, BitVec.toNat_add, hc, ht, BitVec.toNat_ofNat, BitVec.toNat_ofNat, BitVec.toNat_ofNat]
    show _ = (cz d 1024 + (k.val - cz d k.val)) % _
    omega

end places

/-! ## The product -/

/-- Row `i` stands at its place. -/
theorem sorted_at (d : IVec S1x1024 32) (x : FVec Ideal S1024x512 .bf16) (r i : Fin 1024) (hr : r.val = place (Zer d) 1024 i.val) (k : Fin 512) :
    k0_pay8 (F := Ideal) (k0_pay2 (F := Ideal) d) lane (k0_pay4 lane (k0_pay3 (F := Ideal) d)) x (ValueIdx.ix2 r k) = x (ValueIdx.ix2 i k) := by
  have hd : dot_S1024x1024_S1024x512_S1024x512_1_0_0_1_n_n = DotDims.plain 1024 1024 512 := rfl
  show FloatOps.matmul dot_S1024x1024_S1024x512_S1024x512_1_0_0_1_n_n none
      (fun j : S1024x1024.Idx => ((((IntOp.cmpi .eq (iota .tc S1024x1024 32 [0] iota_S1024x1024_d0_w32 j)
        (broadcastTo S1024x1024 (posw (F := Ideal) d) broadcasts_S1x1024_S1024x1024 j)).setWidth 32).toInt : ℝ) : EReal))
      (shapeCast S1024x512 x shapeCasts_S1024x512_S1024x512) (constant S1024x512 .f32 0x00000000#32) (ValueIdx.ix2 r k) = _
  rw [hd, Ideal.matmul_plain_apply, shapeCast_self]
  have h0 : (constant S1024x512 .f32 0x00000000#32 : FVec Ideal S1024x512 .f32) (ValueIdx.ix2 r k) = 0 := Ideal.ofBits_zero_f32
  rw [h0, zero_add]
  have hrow : ∀ c : Fin 1024, iota .tc S1024x1024 32 [0] iota_S1024x1024_d0_w32 (ValueIdx.ix2 r c) = BitVec.ofNat 32 r.val := fun c => by
    show BitVec.ofNat 32 (([0] : List (Fin 2)).foldl (fun n a => n * S1024x1024.size a + (ValueIdx.ix2 r c a).val) 0) = _
    rw [List.foldl_cons, List.foldl_nil, Nat.zero_mul, Nat.zero_add]
  have hcol : ∀ c : Fin 1024, broadcastTo S1024x1024 (posw (F := Ideal) d) broadcasts_S1x1024_S1024x1024 (ValueIdx.ix2 r c) = posw (F := Ideal) d (lix c) := fun c =>
    broadcastTo_apply _ _ _ (lix c) fun a => by match a with | ⟨0, _⟩ => rfl | ⟨1, _⟩ => rfl
  refine (Finset.sum_congr rfl fun c _ => ?_).trans
    (pick (fun c : Fin 1024 => BitVec.ofNat 32 r.val = BitVec.ofNat 32 (place (Zer d) 1024 c.val)) (fun c => x (ValueIdx.ix2 c k)) i fun c => ?_)
  · refine congrArg (· * x (ValueIdx.ix2 c k)) ((hot _ _).trans ?_)
    rw [hrow, hcol, posw_at]
  · have hc := place_lt (Zer d) c.isLt
    have hi := place_lt (Zer d) i.isLt
    constructor
    · intro h
      have h' := congrArg BitVec.toNat h
      rw [BitVec.toNat_ofNat, BitVec.toNat_ofNat, hr, Nat.mod_eq_of_lt (by omega), Nat.mod_eq_of_lt (by omega)] at h'
      exact Fin.ext (place_inj (Zer d) c.isLt i.isLt h'.symm)
    · rintro rfl; rw [hr]

end Cert.Sorted

end
-- ==== Proof.Bands.lean ====
/-
# The result, row by row

The kernel's result is its own kept rows plus the rows received, moved down by a shift: a product with a band of ones, taken
in four blocks of columns.
-/
module

public import proofs.«01_k».proof.Proof.Sorted

@[expose] public section

noncomputable section

namespace Cert.Bands

open Cert.KernelIdeal Cert.KernelIdeal.Gen
open Idealize.ShloMosaic Cert.Counts Cert.Sorted

/-- The band of ones: row `r` has its one in the column `shift` rows higher. -/
theorem band_at (w : BitVec 32) (r : Fin 1024) (c : Fin 512) :
    k0_pay10 (F := Ideal) w (ValueIdx.ix2 r c) = if BitVec.ofNat 32 r.val = BitVec.ofNat 32 c.val + w then (1 : EReal) else 0 := by
  have h0 : iota .tc S1024x512 32 [0] iota_S1024x512_d0_w32 (ValueIdx.ix2 r c) = BitVec.ofNat 32 r.val := by
    show BitVec.ofNat 32 (([0] : List (Fin 2)).foldl (fun n a => n * S1024x512.size a + (ValueIdx.ix2 r c a).val) 0) = _
    rw [List.foldl_cons, List.foldl_nil, Nat.zero_mul, Nat.zero_add]
  have h1 : iota .tc S1024x512 32 [1] iota_S1024x512_d1_w32 (ValueIdx.ix2 r c) = BitVec.ofNat 32 c.val := by
    show BitVec.ofNat 32 (([1] : List (Fin 2)).foldl (fun n a => n * S1024x512.size a + (ValueIdx.ix2 r c a).val) 0) = _
    rw [List.foldl_cons, List.foldl_nil, Nat.zero_mul, Nat.zero_add]
  show ((((IntOp.cmpi .eq (iota .tc S1024x512 32 [0] iota_S1024x512_d0_w32 (ValueIdx.ix2 r c))
    (iota .tc S1024x512 32 [1] iota_S1024x512_d1_w32 (ValueIdx.ix2 r c) + w)).setWidth 32).toInt : ℝ) : EReal) = _
  rw [hot, h0, h1]

/-- The columns whose band entry in row `r` is a one. -/
def Hit (w : BitVec 32) (r c : ℕ) : Prop := BitVec.ofNat 32 r = BitVec.ofNat 32 c + w
instance (w : BitVec 32) (r c : ℕ) : Decidable (Hit w r c) := by unfold Hit; infer_instance

theorem hit_unique {w : BitVec 32} {r a b : ℕ} (ha : a < 1024) (hb : b < 1024) (h : Hit w r a) (h' : Hit w r b) : a = b := by
  have e : BitVec.ofNat 32 a + w = BitVec.ofNat 32 b + w := h.symm.trans h'
  have e' := congrArg BitVec.toNat ((BitVec.add_left_inj w).mp e)
  rw [BitVec.toNat_ofNat, BitVec.toNat_ofNat] at e'
  omega

/-- One block of columns, against one block of the rows received. -/
abbrev block (o : ℕ) (h : S1024x512.Slices ![0, o] S1024x128) (w : BitVec 32) (f : FVec Ideal S128x512 .bf16) : FVec Ideal S1024x512 .f32 :=
  matmul dot_S1024x128_S128x512_S1024x512_1_0_0_1_n_n none (extractStridedSlice S1024x128 ![0, o] (k0_pay10 (F := Ideal) w) h) f
    (constant S1024x512 .f32 0x00000000#32)

theorem block_at (o : ℕ) (ho : o + 128 ≤ 512) (h : S1024x512.Slices ![0, o] S1024x128) (w : BitVec 32) (f : FVec Ideal S128x512 .bf16)
    (r : Fin 1024) (k : Fin 512) :
    block o h w f (ValueIdx.ix2 r k) = ∑ c : Fin 128, (if Hit w r.val (o + c.val) then (1 : EReal) else 0) * f (ValueIdx.ix2 c k) := by
  have hd : dot_S1024x128_S128x512_S1024x512_1_0_0_1_n_n = DotDims.plain 1024 128 512 := rfl
  show FloatOps.matmul dot_S1024x128_S128x512_S1024x512_1_0_0_1_n_n none _ f _ (ValueIdx.ix2 r k) = _
  rw [hd, Ideal.matmul_plain_apply]
  have h0 : (constant S1024x512 .f32 0x00000000#32 : FVec Ideal S1024x512 .f32) (ValueIdx.ix2 r k) = 0 := Ideal.ofBits_zero_f32
  rw [h0, zero_add]
  refine Finset.sum_congr rfl fun c _ => congrArg (· * f (ValueIdx.ix2 c k)) ?_
  have hc : o + c.val < 512 := by have := c.isLt; omega
  exact (extractStridedSlice_apply (s := S1024x512) (t := S1024x128) ![0, o] (k0_pay10 (F := Ideal) w) h (ValueIdx.ix2 r c)
    (ValueIdx.ix2 r ⟨o + c.val, hc⟩) fun a => by match a with | ⟨0, _⟩ => exact (Nat.zero_add _).symm | ⟨1, _⟩ => rfl).trans (band_at w r _)

/-- A block that has the one gives the row there, -/
theorem block_hit (o : ℕ) (ho : o + 128 ≤ 512) (h : S1024x512.Slices ![0, o] S1024x128) (w : BitVec 32) (f : FVec Ideal S128x512 .bf16)
    (r : Fin 1024) (k : Fin 512) (c : Fin 128) (hc : Hit w r.val (o + c.val)) : block o h w f (ValueIdx.ix2 r k) = f (ValueIdx.ix2 c k) := by
  rw [block_at o ho]
  refine pick (fun c : Fin 128 => Hit w r.val (o + c.val)) (fun c => f (ValueIdx.ix2 c k)) c fun a => ⟨fun ha => ?_, fun e => e ▸ hc⟩
  have := hit_unique (by have := a.isLt; omega) (by have := c.isLt; omega) ha hc
  exact Fin.ext (by omega)

/-- and a block that has none, or a cleared row there, gives zero. -/
theorem block_miss (o : ℕ) (ho : o + 128 ≤ 512) (h : S1024x512.Slices ![0, o] S1024x128) (w : BitVec 32) (f : FVec Ideal S128x512 .bf16)
    (r : Fin 1024) (k : Fin 512) (hc : ∀ c : Fin 128, Hit w r.val (o + c.val) → f (ValueIdx.ix2 c k) = 0) : block o h w f (ValueIdx.ix2 r k) = 0 := by
  rw [block_at o ho]
  exact pick_none (fun c : Fin 128 => Hit w r.val (o + c.val)) (fun c => f (ValueIdx.ix2 c k)) hc

/-- The rows a device keeps of its own, the others cleared. -/
def kept (x : FVec Ideal S1024x512 .f32) (kl kb : BitVec 32) (r : Fin 1024) (k : Fin 512) : EReal :=
  if kb.toNat ≤ r.val ∧ r.val < kb.toNat + kl.toNat then x (ValueIdx.ix2 r k) else 0

theorem pay11_at (x : FVec Ideal S1024x512 .f32) (kl kb w : BitVec 32) (hb : kb.toNat + kl.toNat ≤ 1024) (f : FVec Ideal S128x512 .bf16)
    (r : Fin 1024) (k : Fin 512) :
    k0_pay11 (F := Ideal) x kl kb w f (ValueIdx.ix2 r k)
      = kept x kl kb r k + block 0 slices_S1024x512_o0_0_S1024x128 w f (ValueIdx.ix2 r k) := by
  have hr := r.isLt
  have key : ∀ j : S1024x1.Idx, (j 0).val = r.val →
      andi (cmpi .sge (iota .tc S1024x1 32 [0] iota_S1024x1_d0_w32) (broadcast S1024x1 kb))
        (cmpi .slt (iota .tc S1024x1 32 [0] iota_S1024x1_d0_w32) (broadcast S1024x1 (Scalar.addi kb kl))) j
      = BitVec.ofBool (decide (kb.toNat ≤ r.val ∧ r.val < kb.toNat + kl.toNat)) := fun j hj => by
    have hi : iota .tc S1024x1 32 [0] iota_S1024x1_d0_w32 j = BitVec.ofNat 32 r.val := by
      show BitVec.ofNat 32 (([0] : List (Fin 2)).foldl (fun n a => n * S1024x1.size a + (j a).val) 0) = _
      rw [List.foldl_cons, List.foldl_nil, Nat.zero_mul, Nat.zero_add]; exact congrArg _ hj
    show BitVec.ofBool (kb.sle (iota .tc S1024x1 32 [0] iota_S1024x1_d0_w32 j)) &&& BitVec.ofBool ((iota .tc S1024x1 32 [0] iota_S1024x1_d0_w32 j).slt (kb + kl)) = _
    have hs : (kb + kl).toNat = kb.toNat + kl.toNat := by rw [BitVec.toNat_add, Nat.mod_eq_of_lt (by omega)]
    have hn : (BitVec.ofNat 32 r.val).toNat = r.val := by rw [BitVec.toNat_ofNat, Nat.mod_eq_of_lt (by omega)]
    rw [hi, sle_small (by omega) (by omega), slt_small (by omega) (by omega), hs, hn, Bool.decide_and]
    cases decide (kb.toNat ≤ r.val) <;> cases decide (r.val < kb.toNat + kl.toNat) <;> rfl
  refine congrArg (· + block 0 slices_S1024x512_o0_0_S1024x128 w f (ValueIdx.ix2 r k)) ?_
  show Scalar.select (broadcastTo S1024x512 (shapeCast S1024x1 (andi (cmpi .sge (iota .tc S1024x1 32 [0] iota_S1024x1_d0_w32) (broadcast S1024x1 kb))
        (cmpi .slt (iota .tc S1024x1 32 [0] iota_S1024x1_d0_w32) (broadcast S1024x1 (Scalar.addi kb kl)))) shapeCasts_S1024x1_S1024x1) broadcasts_S1024x1_S1024x512 (ValueIdx.ix2 r k))
      (x (ValueIdx.ix2 r k)) (Ideal.ofBits .f32 0x00000000#32) = _
  rw [shapeCast_self, broadcastTo_apply _ _ _ (ValueIdx.ix2 r (0 : Fin 1)) (fun a => by match a with | ⟨0, _⟩ => rfl | ⟨1, _⟩ => rfl), key _ rfl, select_ofBool, Ideal.ofBits_zero_f32]
  unfold kept
  by_cases h : kb.toNat ≤ r.val ∧ r.val < kb.toNat + kl.toNat
  · rw [if_pos h, if_pos (decide_eq_true h)]
  · rw [if_neg h, if_neg (by simpa using h)]

/-- The whole result: the rows kept plus the four blocks. -/
theorem result_at (x : FVec Ideal S1024x512 .f32) (kl kb w : BitVec 32) (hb : kb.toNat + kl.toNat ≤ 1024) (f0 f1 f2 f3 : FVec Ideal S128x512 .bf16)
    (r : Fin 1024) (k : Fin 512) :
    k0_pay13 (F := Ideal) (k0_pay10 w) (k0_pay12 (k0_pay10 w) (k0_pay11 x kl kb w f0) f1 f2) f3 (ValueIdx.ix2 r k)
      = kept x kl kb r k + block 0 slices_S1024x512_o0_0_S1024x128 w f0 (ValueIdx.ix2 r k) + block 128 slices_S1024x512_o0_128_S1024x128 w f1 (ValueIdx.ix2 r k)
        + block 256 slices_S1024x512_o0_256_S1024x128 w f2 (ValueIdx.ix2 r k) + block 384 slices_S1024x512_o0_384_S1024x128 w f3 (ValueIdx.ix2 r k) := by
  rw [← pay11_at x kl kb w hb f0 r k]
  rfl

end Cert.Bands

end
-- ==== Proof.Values.lean ====
/-
# What each device's result holds

Where the two devices of a pair have 1024 zeros between them, at least 512 of them in the first half, each device's result
holds its own row, or a row received from the other, at every place.
-/
module

public import proofs.«01_k».proof.Proof.Bands
public import proofs.«01_k».proof.Proof.Frames

@[expose] public section

noncomputable section

namespace Cert.Values

open Cert.KernelIdeal Cert.KernelIdeal.Gen
open Idealize.ShloMosaic Idealize.ShloMosaic.TcCoe Idealize.SL.Sem
open Cert.Exchange Cert.Words Cert.Counts Cert.Places Cert.Sorted Cert.Bands

variable (m : (ℓ : Loc nD τ sig) → Buf (Elt Ideal) ℓ) (ρ : Dev nD → PrngReg)

theorem ix_ix2 (r : Fin 1024) (k : Fin 512) : ix r k = ValueIdx.ix2 r k := funext fun a => by
  match a with
  | ⟨0, _⟩ => rfl
  | ⟨1, _⟩ => rfl

/-- A device's tokens, as staged. -/
abbrev tok (c : Dev nD) (i : Fin 1024) (k : Fin 512) : EReal := (xstg m ρ c : S1024x512.Idx → EReal) (ValueIdx.ix2 i k)
/-- The product that sorts them. -/
abbrev prod (c : Dev nD) : FVec Ideal S1024x512 .f32 := k0_pay8 (F := Ideal) (k0_pay2 (F := Ideal) (dstg m ρ c)) Exchange.lane (inc m ρ c) (xstg m ρ c)
/-- The number of a device's zeros. -/
abbrev nz (c : Dev nD) : ℕ := cz (dstg m ρ c) 1024

theorem nz_eq (c : Dev nD) : nz m ρ c = (word m ρ c).toNat := (Frames.word_toNat m ρ c).symm
/-- The rows received, and the result. -/
abbrev landed (c : Dev nD) (q : Fin 1024) (k : Fin 512) : EReal := (land m ρ c : S1024x512.Idx → EReal) (ix q k)
abbrev outRow (c : Dev nD) (r : Fin 1024) (k : Fin 512) : EReal := (outAt m ρ c : S1024x512.Idx → EReal) (ValueIdx.ix2 r k)

theorem prod_at (c : Dev nD) (r i : Fin 1024) (hr : r.val = place (Zer (dstg m ρ c)) 1024 i.val) (k : Fin 512) :
    prod m ρ c (ValueIdx.ix2 r k) = tok m ρ c i k := sorted_at (dstg m ρ c) (xstg m ρ c) r i hr k

theorem sb_at (c : Dev nD) (r i : Fin 1024) (hr : r.val = place (Zer (dstg m ρ c)) 1024 i.val) (k : Fin 512) :
    (sb m ρ c : S1024x512.Idx → EReal) (ix r k) = tok m ρ c i k := by
  rw [← prod_at m ρ c r i hr k, ix_ix2]
  show shapeCast S1024x512 (prod m ρ c) shapeCasts_S1024x512_S1024x512 (ValueIdx.ix2 r k) = _
  rw [shapeCast_self]

theorem zeros_at (i : S1024x512.Idx) : @Eq EReal ((zeros (F := Ideal) : S1024x512.Idx → EReal) i) 0 := by
  show shapeCast S1024x512 (fun _ => Ideal.ofBits .bf16 0x0000#16) shapeCasts_S1024x512_S1024x512 i = 0
  rw [shapeCast_self]
  simp [Ideal.ofBits, Ideal.ieee]

/-- A row received: the other device's sorted row, `base` further down, -/
theorem land_in (c : Dev nD) (q : Fin 1024) (k : Fin 512) (h1 : q.val < 512) (h2 : q.val < len (row (peer c)) (nz m ρ (peer c))) (r i : Fin 1024)
    (hr : r.val = base (row (peer c)) (nz m ρ (peer c)) + q.val) (hi : r.val = place (Zer (dstg m ρ (peer c))) 1024 i.val) :
    landed m ρ c q k = tok m ρ (peer c) i k := by
  rw [nz_eq m ρ (peer c)] at h2 hr
  refine (if_pos ⟨h1, h2⟩).trans (Eq.trans ?_ (sb_at m ρ (peer c) r i hi k))
  have e : (⟨(base (row (peer c)) (word m ρ (peer c)).toNat + q.val) % 1024, Nat.mod_lt _ (by decide)⟩ : Fin 1024) = r := Fin.ext (by
    show (base (row (peer c)) (word m ρ (peer c)).toNat + q.val) % 1024 = r.val
    rw [← hr]; exact Nat.mod_eq_of_lt r.isLt)
  exact congrArg (fun a => (sb m ρ (peer c) : S1024x512.Idx → EReal) (ix a k)) e

/-- and past the rows sent, zero. -/
theorem land_out (c : Dev nD) (q : Fin 1024) (k : Fin 512) (h2 : len (row (peer c)) (nz m ρ (peer c)) ≤ q.val) :
    landed m ρ c q k = 0 := by
  rw [nz_eq m ρ (peer c)] at h2
  exact (if_neg fun h => absurd h.2 (Nat.not_lt.mpr h2)).trans (zeros_at _)

theorem blk_at (o : ℕ) (inb : ∀ a, (![o, 0] : Fin 2 → ℕ) a + S128x512.size a ≤ S1024x512.size a) (ho : o + 128 ≤ 1024)
    (f : (cc0_scratch1 : Ref sig .tc).ty.Contents (Elt Ideal)) (q : Fin 128) (k : Fin 512) :
    blk o inb f (ValueIdx.ix2 q k) = (f : S1024x512.Idx → EReal) (ix ⟨o + q.val, by have := q.isLt; omega⟩ k) := by
  show (f : S1024x512.Idx → EReal) _ = _
  refine congrArg _ (funext fun a => Fin.ext ?_)
  match a with
  | ⟨0, _⟩ => exact congrArg (o + ·) (Nat.one_mul _)
  | ⟨1, _⟩ => exact (Nat.zero_add _).trans (Nat.one_mul _)

/-! ## The result -/

section result
variable (hR : InRange m ρ) (c : Dev nD)
include hR

theorem kl_at : (keepLen c (word m ρ c)).toNat = if row c = 0 then nz m ρ c else 1024 - nz m ρ c := by
  rw [keepLen_toNat c (hR c).1 (hR c).2, ← nz_eq m ρ c]
theorem kb_at : (keepBase c (word m ρ c)).toNat = if row c = 0 then 0 else nz m ρ c := by
  rw [keepBase_toNat c (hR c).1 (hR c).2, ← nz_eq m ρ c]
theorem sh_at : (shift c (word m ρ c)).toInt = if row c = 0 then (nz m ρ c : ℤ) else - (((1024 - nz m ρ c) % 8 : ℕ) : ℤ) := by
  rw [shift_toInt c (hR c).1 (hR c).2, ← nz_eq m ρ c]

theorem keep_le : (keepBase c (word m ρ c)).toNat + (keepLen c (word m ρ c)).toNat ≤ 1024 := by
  have : nz m ρ c ≤ 1024 := cz_le (dstg m ρ c) 1024
  rw [kl_at m ρ hR c, kb_at m ρ hR c]; split <;> omega

theorem hit_iff (r q : ℕ) (hr : r < 1024) (hq : q < 1024) : Hit (shift c (word m ρ c)) r q ↔ (r : ℤ) = q + (shift c (word m ρ c)).toInt := by
  have hn : nz m ρ c ≤ 1024 := cz_le (dstg m ρ c) 1024
  have hs := sh_at m ρ hR c
  have hb : -8 < (shift c (word m ρ c)).toInt ∧ (shift c (word m ρ c)).toInt ≤ 1024 := by rw [hs]; split <;> omega
  have er : (BitVec.ofNat 32 r).toInt = r := by
    rw [BitVec.toInt_eq_toNat_of_lt (by rw [BitVec.toNat_ofNat]; omega), BitVec.toNat_ofNat, Nat.mod_eq_of_lt (by omega)]
  have eq : (BitVec.ofNat 32 q).toInt = q := by
    rw [BitVec.toInt_eq_toNat_of_lt (by rw [BitVec.toNat_ofNat]; omega), BitVec.toNat_ofNat, Nat.mod_eq_of_lt (by omega)]
  unfold Hit
  rw [← BitVec.toInt_inj, BitVec.toInt_add, er, eq, Int.bmod_eq_of_le (by omega) (by omega)]

theorem out_at (r : Fin 1024) (k : Fin 512) :
    outRow m ρ c r k
      = kept (prod m ρ c) (keepLen c (word m ρ c)) (keepBase c (word m ρ c)) r k
        + block 0 slices_S1024x512_o0_0_S1024x128 (shift c (word m ρ c)) (blk 0 inb_S1024x512_S128x512_0_0 (land m ρ c)) (ValueIdx.ix2 r k)
        + block 128 slices_S1024x512_o0_128_S1024x128 (shift c (word m ρ c)) (blk 128 inb_S1024x512_S128x512_128_0 (land m ρ c)) (ValueIdx.ix2 r k)
        + block 256 slices_S1024x512_o0_256_S1024x128 (shift c (word m ρ c)) (blk 256 inb_S1024x512_S128x512_256_0 (land m ρ c)) (ValueIdx.ix2 r k)
        + block 384 slices_S1024x512_o0_384_S1024x128 (shift c (word m ρ c)) (blk 384 inb_S1024x512_S128x512_384_0 (land m ρ c)) (ValueIdx.ix2 r k) :=
  result_at (prod m ρ c) _ _ _ (keep_le m ρ hR c) _ _ _ _ r k

/-- Where nothing received belongs, the row kept. -/
theorem out_own (r : Fin 1024) (k : Fin 512)
    (hk : (keepBase c (word m ρ c)).toNat ≤ r.val ∧ r.val < (keepBase c (word m ρ c)).toNat + (keepLen c (word m ρ c)).toNat)
    (hq : ∀ q : Fin 1024, q.val < 512 → Hit (shift c (word m ρ c)) r.val q.val → landed m ρ c q k = 0) :
    outRow m ρ c r k = prod m ρ c (ValueIdx.ix2 r k) := by
  have miss : ∀ (o : ℕ) (ho : o + 128 ≤ 512) (h : S1024x512.Slices ![0, o] S1024x128) (inb : ∀ a, (![o, 0] : Fin 2 → ℕ) a + S128x512.size a ≤ S1024x512.size a),
      block o h (shift c (word m ρ c)) (blk o inb (land m ρ c)) (ValueIdx.ix2 r k) = 0 := fun o ho h inb =>
    block_miss o ho h _ _ r k fun q hh => (blk_at o inb (by omega) _ q k).trans (hq _ (by show o + q.val < 512; have := q.isLt; omega) hh)
  rw [out_at m ρ hR c r k, miss 0 (by decide), miss 128 (by decide), miss 256 (by decide), miss 384 (by decide), add_zero, add_zero, add_zero, add_zero]
  exact if_pos hk

/-- Elsewhere, the row received. -/
theorem out_recv (r : Fin 1024) (k : Fin 512)
    (hk : ¬ ((keepBase c (word m ρ c)).toNat ≤ r.val ∧ r.val < (keepBase c (word m ρ c)).toNat + (keepLen c (word m ρ c)).toNat))
    (q : Fin 1024) (hq : q.val < 512) (hh : Hit (shift c (word m ρ c)) r.val q.val) :
    outRow m ρ c r k = landed m ρ c q k := by
  have part : ∀ (o : ℕ) (ho : o + 128 ≤ 512) (h : S1024x512.Slices ![0, o] S1024x128) (inb : ∀ a, (![o, 0] : Fin 2 → ℕ) a + S128x512.size a ≤ S1024x512.size a),
      block o h (shift c (word m ρ c)) (blk o inb (land m ρ c)) (ValueIdx.ix2 r k)
        = if o ≤ q.val ∧ q.val < o + 128 then landed m ρ c q k else 0 := fun o ho h inb => by
    by_cases hin : o ≤ q.val ∧ q.val < o + 128
    · rw [if_pos hin]
      have e : o + (q.val - o) = q.val := by omega
      refine (block_hit o ho h _ _ r k ⟨q.val - o, by omega⟩ (by show Hit _ _ (o + (q.val - o)); rw [e]; exact hh)).trans ((blk_at o inb (by omega) _ _ k).trans ?_)
      exact congrArg (fun a => landed m ρ c a k) (Fin.ext e)
    · rw [if_neg hin]
      refine block_miss o ho h _ _ r k fun a ha => absurd ?_ hin
      have hal := a.isLt
      have := hit_unique (by omega) q.isLt ha hh
      omega
  rw [out_at m ρ hR c r k, part 0 (by decide), part 128 (by decide), part 256 (by decide), part 384 (by decide), kept, if_neg hk, zero_add]
  have : q.val < 128 ∨ (128 ≤ q.val ∧ q.val < 256) ∨ (256 ≤ q.val ∧ q.val < 384) ∨ (384 ≤ q.val ∧ q.val < 512) := by omega
  rcases this with h | h | h | h
  · rw [if_pos (by omega), if_neg (by omega), if_neg (by omega), if_neg (by omega), add_zero, add_zero, add_zero]
  · rw [if_neg (by omega), if_pos (by omega), if_neg (by omega), if_neg (by omega), zero_add, add_zero, add_zero]
  · rw [if_neg (by omega), if_neg (by omega), if_pos (by omega), if_neg (by omega), zero_add, zero_add, add_zero]
  · rw [if_neg (by omega), if_neg (by omega), if_neg (by omega), if_pos (by omega), zero_add, zero_add, zero_add]

/-! ## Own rows and rows received, by destination -/

/-- A device in place `0` holds its own zeros first, in order. -/
theorem own_zero (h0 : row c = 0) (i r : Fin 1024) (hz : Zer (dstg m ρ c) i.val) (hr : r.val = cz (dstg m ρ c) i.val) (k : Fin 512) :
    outRow m ρ c r k = tok m ρ c i k := by
  have hlt : cz (dstg m ρ c) i.val < nz m ρ c := Nat.count_strict_mono hz i.isLt
  rw [← prod_at m ρ c r i (hr.trans (place_pos _ hz).symm) k]
  refine out_own m ρ hR c r k ?_ fun q hq hh => ?_
  · rw [kl_at m ρ hR c, kb_at m ρ hR c, if_pos h0, if_pos h0]; omega
  · rw [hit_iff m ρ hR c _ _ r.isLt q.isLt, sh_at m ρ hR c, if_pos h0] at hh
    omega

/-- A device in place `1` holds its own others last, in order. -/
theorem own_one (h1 : row c = 1) (hall : nz m ρ c + nz m ρ (peer c) = 1024) (i r : Fin 1024) (hz : ¬ Zer (dstg m ρ c) i.val)
    (hr : r.val = nz m ρ c + (i.val - cz (dstg m ρ c) i.val)) (k : Fin 512) :
    outRow m ρ c r k = tok m ρ c i k := by
  have hne : ¬ row c = 0 := by omega
  have hp : row (peer c) = 0 := by rw [row_peer, h1]
  have hrl := r.isLt
  rw [← prod_at m ρ c r i (hr.trans (place_neg _ hz).symm) k]
  refine out_own m ρ hR c r k ?_ fun q hq hh => land_out m ρ c q k ?_
  · rw [kl_at m ρ hR c, kb_at m ρ hR c, if_neg hne, if_neg hne]; omega
  · rw [hit_iff m ρ hR c _ _ r.isLt q.isLt, sh_at m ρ hR c, if_neg hne] at hh
    rw [hp]; show 1024 - nz m ρ (peer c) / 8 * 8 ≤ _
    omega

/-- After them, in place `0`, the other device's zeros, in order. -/
theorem recv_zero (h0 : row c = 0) (hall : nz m ρ c + nz m ρ (peer c) = 1024) (hf : 512 ≤ nz m ρ c) (i r : Fin 1024)
    (hz : Zer (dstg m ρ (peer c)) i.val) (hr : r.val = nz m ρ c + cz (dstg m ρ (peer c)) i.val) (k : Fin 512) :
    outRow m ρ c r k = tok m ρ (peer c) i k := by
  have hp : row (peer c) = 1 := by rw [row_peer, h0]
  have hlt : cz (dstg m ρ (peer c)) i.val < nz m ρ (peer c) := Nat.count_strict_mono hz i.isLt
  refine (out_recv m ρ hR c r k ?_ ⟨cz (dstg m ρ (peer c)) i.val, by omega⟩ (by show cz _ _ < 512; omega) ?_).trans
    (land_in m ρ c _ k (by show cz _ _ < 512; omega) ?_ ⟨cz (dstg m ρ (peer c)) i.val, by omega⟩ i ?_ (place_pos _ hz).symm)
  · rw [kl_at m ρ hR c, kb_at m ρ hR c, if_pos h0, if_pos h0]; omega
  · refine (hit_iff m ρ hR c _ _ r.isLt (by show cz _ _ < 1024; omega)).mpr ?_
    rw [sh_at m ρ hR c, if_pos h0]
    show _ = ((cz (dstg m ρ (peer c)) i.val : ℕ) : ℤ) + _
    omega
  · rw [hp]; show cz (dstg m ρ (peer c)) i.val < (nz m ρ (peer c) + 7) / 8 * 8; omega
  · rw [hp]; exact (Nat.zero_add _).symm

/-- Before its own, in place `1`, the other device's others, in order. -/
theorem recv_one (h1 : row c = 1) (hall : nz m ρ c + nz m ρ (peer c) = 1024) (hf : 512 ≤ nz m ρ (peer c)) (i r : Fin 1024)
    (hz : ¬ Zer (dstg m ρ (peer c)) i.val) (hr : r.val = i.val - cz (dstg m ρ (peer c)) i.val) (k : Fin 512) :
    outRow m ρ c r k = tok m ρ (peer c) i k := by
  have hne : ¬ row c = 0 := by omega
  have hp : row (peer c) = 0 := by rw [row_peer, h1]
  have hlt : i.val - cz (dstg m ρ (peer c)) i.val < 1024 - nz m ρ (peer c) := rest_lt _ hz i.isLt
  refine (out_recv m ρ hR c r k ?_ ⟨r.val + nz m ρ (peer c) % 8, by omega⟩ (by show r.val + _ < 512; omega) ?_).trans
    (land_in m ρ c _ k (by show r.val + _ < 512; omega) ?_ ⟨nz m ρ (peer c) + r.val, by omega⟩ i ?_ ?_)
  · rw [kl_at m ρ hR c, kb_at m ρ hR c, if_neg hne, if_neg hne]; omega
  · refine (hit_iff m ρ hR c _ _ r.isLt (by show r.val + _ < 1024; omega)).mpr ?_
    rw [sh_at m ρ hR c, if_neg hne]
    show _ = ((r.val + nz m ρ (peer c) % 8 : ℕ) : ℤ) + _
    omega
  · rw [hp]; show r.val + nz m ρ (peer c) % 8 < 1024 - nz m ρ (peer c) / 8 * 8; omega
  · rw [hp]; show nz m ρ (peer c) + r.val = nz m ρ (peer c) / 8 * 8 + (r.val + nz m ρ (peer c) % 8); omega
  · rw [place_neg _ hz]; show _ + r.val = cz _ _ + _; rw [hr]; rfl

end result

end Cert.Values

end
-- ==== Proof.RefValue.lean ====
/-
# What the reference computes

Where every destination is `0` or `1`, the reference's sort is the stable partition: its result's row at the place of
position `g` is row `g` of the tokens.
-/
module

public import proofs.«01_k».proof.Proof.Gen.ReferenceIdeal.Run
public import proofs.«01_k».proof.Proof.Places
public import Idealize.ShloMosaic.Lib.Routing.Ops

@[expose] public section

noncomputable section

namespace Cert.RefValue

open Cert.ReferenceIdeal Cert.ReferenceIdeal.Gen
open Idealize.ShloMosaic Cert.Places

/-- Column `k` of the one-row array of all destinations. -/
def gix (k : Fin 2048) : S1x2048.Idx
  | ⟨0, _⟩ => (0 : Fin 1)
  | ⟨1, _⟩ => k

theorem gix_eta (i : S1x2048.Idx) : i = gix (i 1) := funext fun a => by
  match a with
  | ⟨0, _⟩ => exact Subsingleton.elim (α := Fin 1) _ _
  | ⟨1, _⟩ => rfl

/-- Position `i` of all goes to the first block. -/
def Zero (d : S1x2048.Idx → BitVec 32) (i : ℕ) : Prop := ∃ h : i < 2048, d (gix ⟨i, h⟩) = 0#32
instance (d : S1x2048.Idx → BitVec 32) : DecidablePred (Zero d) := fun i => by unfold Zero; infer_instance
theorem zero_iff (d : S1x2048.Idx → BitVec 32) (k : Fin 2048) : Zero d k.val ↔ d (gix k) = 0#32 := ⟨fun ⟨_, h⟩ => h, fun h => ⟨k.isLt, h⟩⟩

/-- Every destination is `0` or `1`. -/
def Bits01 (d : S1x2048.Idx → BitVec 32) : Prop := ∀ k, d (gix k) = 0#32 ∨ d (gix k) = 1#32

theorem keys (d : S1x2048.Idx → BitVec 32) (k : Fin 2048) :
    shapeCast S2048 d shapeCasts_S1x2048_S2048 (Shape.Idx.ofFin k) = d (gix k) :=
  shapeCast_apply d _ _ _ (by
    rw [Shape.rowMajor_val_two, Shape.rowMajor_val_one]
    show 0 * 2048 + k.val = k.val
    omega)

theorem less_iff (a b : BitVec 32) (ha : a = 0#32 ∨ a = 1#32) (hb : b = 0#32 ∨ b = 1#32) :
    (BitVec.ofBool (a.slt b) == 1#1) = (decide (a = 0#32) && !decide (b = 0#32)) := by
  rcases ha with rfl | rfl <;> rcases hb with rfl | rfl <;> decide

/-- The order the reference sorts the positions into. -/
abbrev order (d : IVec S1x2048 32) : IVec S2048 32 :=
  (Host.sort2 S2048 0 comparator_i32_i32_d0 (shapeCast S2048 d shapeCasts_S1x2048_S2048) (iotaInDim S2048 32 0)).2

theorem order_place (d : IVec S1x2048 32) (hd : Bits01 d) (g q : Fin 2048) (hq : q.val = place (Zero d) 2048 g.val) :
    order d (Shape.Idx.ofFin q) = BitVec.ofNat 32 g.val := by
  have hb : (fun k k' : Fin 2048 => comparator_i32_i32_d0
        (shapeCast S2048 d shapeCasts_S1x2048_S2048 ((Shape.Idx.ofFin q).along 0 k), iotaInDim S2048 32 0 ((Shape.Idx.ofFin q).along 0 k))
        (shapeCast S2048 d shapeCasts_S1x2048_S2048 ((Shape.Idx.ofFin q).along 0 k'), iotaInDim S2048 32 0 ((Shape.Idx.ofFin q).along 0 k')) == 1#1)
      = fun a b : Fin 2048 => decide (Zero d a.val) && !decide (Zero d b.val) := by
    funext k k'
    rw [Shape.Idx.along_rank1, Shape.Idx.along_rank1, keys, keys]
    show (BitVec.ofBool ((d (gix k)).slt (d (gix k'))) == 1#1) = _
    rw [decide_eq_decide.mpr (zero_iff d k), decide_eq_decide.mpr (zero_iff d k')]
    exact less_iff _ _ (hd k) (hd k')
  refine (congrArg (fun f : Fin 2048 → Fin 2048 → Bool => iotaInDim S2048 32 0 ((Shape.Idx.ofFin q).along (0 : Fin 1) (sortedFrom f q))) hb).trans ?_
  refine (congrArg (fun p : Fin 2048 => iotaInDim S2048 32 0 ((Shape.Idx.ofFin q).along (0 : Fin 1) p)) (sorted_place (Zero d) g q hq)).trans ?_
  exact congrArg (iotaInDim S2048 32 0) (Shape.Idx.along_rank1 _ g)

/-- What the reference's run ends with. -/
abbrev result {F : FTy → Type} [FloatOps F] (x : FVec F S2048x512 .bf16) (d : IVec S1x2048 32) : FVec F S2048x512 .bf16 :=
  Host.gather gather_S2048x512_S2048x1_S2048x512_1_0_n_n_0_1_1512 x (broadcastInDim S2048x1 ![0] bcast_S2048_S2048x1_0
    (select (cmpi .slt (order d) (broadcastInDim S2048 ![] bcast_S_S2048 (constantI S_ 32 0#32)))
      (addi (order d) (broadcastInDim S2048 ![] bcast_S_S2048 (constantI S_ 32 2048#32))) (order d)))

/-- Row `g` of the tokens stands at the place of position `g`. -/
theorem result_place {F : FTy → Type} [FloatOps F] (x : FVec F S2048x512 .bf16) (d : IVec S1x2048 32) (hd : Bits01 d) (g q : Fin 2048)
    (hq : q.val = place (Zero d) 2048 g.val) (k : Fin 512) : result x d (ValueIdx.ix2 q k) = x (ValueIdx.ix2 g k) := by
  refine Routing.gather_row (nb := 2048) (B := 512) (n := 2048) _ rfl rfl rfl rfl rfl x _ q k g ?_ (by decide)
  have e : ∀ f : S2048.Idx → BitVec 32, broadcastInDim S2048x1 ![0] bcast_S2048_S2048x1_0 f (ValueIdx.ix2 q (0 : Fin 1)) = f (Shape.Idx.ofFin q) := fun f =>
    congrArg f ((Shape.Idx.eq_ofFin _).trans (congrArg Shape.Idx.ofFin (Fin.ext rfl)))
  rw [e]
  show Scalar.select (IntOp.cmpi .slt (order d (Shape.Idx.ofFin q)) 0#32) (order d (Shape.Idx.ofFin q) + 2048#32) (order d (Shape.Idx.ofFin q)) = _
  rw [order_place d hd g q hq]
  have h : (BitVec.ofNat 32 g.val).slt 0#32 = false := by
    have := g.isLt
    rw [BitVec.slt_eq_decide, BitVec.toInt_eq_toNat_of_lt (by rw [BitVec.toNat_ofNat]; omega), BitVec.toInt_zero]
    exact decide_eq_false (by omega)
  show Scalar.select (BitVec.ofBool ((BitVec.ofNat 32 g.val).slt 0#32)) _ _ = _
  rw [h]; rfl

end Cert.RefValue

end
-- ==== Proof.Halves.lean ====
/-
# Two halves, and what the mask says

The one-row array of all destinations is two halves, one per device row. Where the mask holds, every destination is `0` or `1`,
half of all are `0`, and at least half of the first half's are.
-/
module

public import proofs.«01_k».proof.Proof.Counts
public import proofs.«01_k».proof.Proof.RefValue
public import proofs.«01_k».proof.Proof.Gen.On_balanced
public import Idealize.ShloMosaic.Lib.ReduceAll

@[expose] public section

noncomputable section

namespace Cert.Halves

open Idealize.ShloMosaic Cert.Counts Cert.RefValue Cert.Places
open Cert.KernelIdeal (S1x1024)
open Cert.ReferenceIdeal (S1x2048)

/-- The destinations of device row `y`. -/
def half (d : S1x2048.Idx → BitVec 32) (y : Fin 2) : S1x1024.Idx → BitVec 32 := fun i =>
  d (gix ⟨y.val * 1024 + (i 1).val, by have := (i 1).isLt; have e : S1x1024.size 1 = 1024 := rfl; have := y.isLt; omega⟩)

theorem zer_half (d : S1x2048.Idx → BitVec 32) (y : Fin 2) (i : ℕ) (h : i < 1024) : Zer (half d y) i ↔ Zero d (y.val * 1024 + i) := by
  have := y.isLt
  exact ⟨fun ⟨_, e⟩ => ⟨by omega, e⟩, fun ⟨_, e⟩ => ⟨h, e⟩⟩

theorem count_half (d : S1x2048.Idx → BitVec 32) (y : Fin 2) (i : ℕ) (h : i ≤ 1024) :
    Nat.count (fun k => Zero d (y.val * 1024 + k)) i = cz (half d y) i := by
  induction i with
  | zero => rfl
  | succ i ih =>
    rw [Nat.count_succ, cz_succ, ih (by omega)]
    by_cases hz : Zero d (y.val * 1024 + i)
    · rw [if_pos hz, if_pos ((zer_half d y i h).mpr hz)]
    · rw [if_neg hz, if_neg fun h' => hz ((zer_half d y i h).mp h')]

theorem count_low (d : S1x2048.Idx → BitVec 32) (i : ℕ) (h : i ≤ 1024) : Nat.count (Zero d) i = cz (half d 0) i := by
  rw [← count_half d 0 i h]
  congr 1
  funext k
  show Zero d k = Zero d (0 * 1024 + k)
  rw [Nat.zero_mul, Nat.zero_add]

theorem count_high (d : S1x2048.Idx → BitVec 32) (i : ℕ) (h : i ≤ 1024) :
    Nat.count (Zero d) (1024 + i) = cz (half d 0) 1024 + cz (half d 1) i := by
  rw [Nat.count_add, count_low d 1024 le_rfl, ← count_half d 1 i h]
  rfl

theorem card_all (d : S1x2048.Idx → BitVec 32) : (Finset.univ.filter fun i : S1x2048.Idx => d i = 0#32).card = Nat.count (Zero d) 2048 := by
  rw [Nat.count_eq_card_filter_range]
  refine Finset.card_bij (fun i _ => (i 1).val) (fun i hi => ?_) (fun a _ b _ h => ?_) (fun n hn => ?_)
  · refine Finset.mem_filter.mpr ⟨Finset.mem_range.mpr (i 1).isLt, (i 1).isLt, ?_⟩
    have := (Finset.mem_filter.mp hi).2
    rw [gix_eta i] at this; exact this
  · rw [gix_eta a, gix_eta b]; exact congrArg gix (Fin.ext h)
  · obtain ⟨_, h, hz⟩ := Finset.mem_filter.mp hn
    exact ⟨gix ⟨n, h⟩, Finset.mem_filter.mpr ⟨Finset.mem_univ _, hz⟩, rfl⟩

/-- What the mask says of the destinations. -/
structure Balanced (d : S1x2048.Idx → BitVec 32) : Prop where
  bits : Bits01 d
  all : cz (half d 0) 1024 + cz (half d 1) 1024 = 1024
  first : 512 ≤ cz (half d 0) 1024

theorem bit_or (a : BitVec 32) (h : IntOp.ori (IntOp.cmpi .eq a 0#32) (IntOp.cmpi .eq a 1#32) = 1#1) : a = 0#32 ∨ a = 1#32 := by
  by_contra hc
  rw [not_or] at hc
  have h1 : IntOp.cmpi .eq a 0#32 = 0#1 := by show BitVec.ofBool (a == 0#32) = _; rw [beq_eq_false_iff_ne.mpr hc.1]; rfl
  have h2 : IntOp.cmpi .eq a 1#32 = 0#1 := by show BitVec.ofBool (a == 1#32) = _; rw [beq_eq_false_iff_ne.mpr hc.2]; rfl
  rw [h1, h2] at h
  exact absurd h (by decide)

theorem ofBool_one {b : Bool} (h : BitVec.ofBool b = 1#1) : b = true := by cases b <;> [exact absurd h (by decide); rfl]

theorem bcast_one {i : Cert.On_balanced.S2048x512.Idx} (v : Cert.On_balanced.S_.Idx → BitVec 1)
    (h : broadcastInDim Cert.On_balanced.S2048x512 ![] Cert.On_balanced.Gen.bcast_S_S2048x512 v i = 1#1) (j : Cert.On_balanced.S_.Idx) : v j = 1#1 :=
  (congrArg v (funext fun a => a.elim0)).trans h

theorem balanced_of_mask {F : FTy → Type} [FloatOps F] (x : FVec F Cert.On_balanced.S2048x512 .bf16) (d : IVec S1x2048 32)
    (i : Cert.On_balanced.S2048x512.Idx) (h : Cert.On_balanced.fn (F := F) x d i = 1#1) : Balanced d := by
  unfold Cert.On_balanced.fn Cert.On_balanced.fn_part1 at h
  set j : Cert.On_balanced.S_.Idx := fun a => a.elim0
  have h15 : IntOp.andi (IntOp.andi
      (Host.reduce IntOp.andi (fun i => IntOp.ori (IntOp.cmpi .eq (d i) 0#32) (IntOp.cmpi .eq (d i) 1#32)) (constantI Cert.On_balanced.S_ 1 1#1)
        Cert.On_balanced.Gen.reducesTo_S1x2048_S_d0_1 Cert.On_balanced.Gen.h_S_ j)
      (IntOp.cmpi .eq (Host.reduce IntOp.addi (fun i => (IntOp.cmpi .eq (d i) 0#32).setWidth 32) (constantI Cert.On_balanced.S_ 32 0#32)
        Cert.On_balanced.Gen.reducesTo_S1x2048_S_d0_1 Cert.On_balanced.Gen.h_S_ j) 1024#32))
      (IntOp.cmpi .sge (Host.reduce IntOp.addi (extractStridedSlice Cert.On_balanced.S1x1024 ![0, 0] (fun i => (IntOp.cmpi .eq (d i) 0#32).setWidth 32)
        Cert.On_balanced.Gen.slices_S1x2048_S1x1024_0_0) (constantI Cert.On_balanced.S_ 32 0#32)
        Cert.On_balanced.Gen.reducesTo_S1x1024_S_d0_1 Cert.On_balanced.Gen.h_S_ j) 512#32) = 1#1 := bcast_one _ h j
  obtain ⟨h13, h14⟩ := IntOp.andi_eq_one.mp h15
  obtain ⟨h11, h12⟩ := IntOp.andi_eq_one.mp h13
  have bits : Bits01 d := fun k => bit_or _ (Host.reduce_andi_eq_one _ _ _ _ j h11 (gix k) (Subsingleton.elim _ _))
  rw [reduce_count _ _ _ _ j (fun i => Subsingleton.elim _ _) rfl (fun i => d i = 0#32) (fun i => one_if (d i)), card_all,
    show (2048 : ℕ) = 1024 + 1024 from rfl, count_high d 1024 le_rfl] at h12
  have hs : ∀ i : S1x1024.Idx, extractStridedSlice Cert.On_balanced.S1x1024 ![0, 0] (fun i => (IntOp.cmpi .eq (d i) 0#32).setWidth 32)
      Cert.On_balanced.Gen.slices_S1x2048_S1x1024_0_0 i = if half d 0 i = 0#32 then 1#32 else 0#32 := fun i => by
    rw [← one_if]
    unfold extractStridedSlice half
    refine congrArg (fun a => (IntOp.cmpi .eq (d a) 0#32).setWidth 32) ?_
    rw [gix_eta (fun _ => _)]
    exact congrArg gix (Fin.ext rfl)
  rw [reduce_count _ _ _ _ j (fun i => Subsingleton.elim _ _) rfl (fun i => half d 0 i = 0#32) hs, card_zeros] at h14
  have b0 := cz_le (half d 0) 1024
  have b1 := cz_le (half d 1) 1024
  refine ⟨bits, ?_, ?_⟩
  · have e : (BitVec.ofNat 32 (cz (half d 0) 1024 + cz (half d 1) 1024) == 1024#32) = true := by
      exact ofBool_one h12
    have e' := congrArg BitVec.toNat (eq_of_beq e)
    rw [BitVec.toNat_ofNat, BitVec.toNat_ofNat] at e'
    omega
  · have e : (512#32).sle (BitVec.ofNat 32 (cz (half d 0) 1024)) = true := by
      exact ofBool_one h14
    rw [sle_small (by decide) (by rw [BitVec.toNat_ofNat]; omega), BitVec.toNat_ofNat, BitVec.toNat_ofNat] at e
    have := of_decide_eq_true e
    omega

end Cert.Halves

end
-- ==== Proof.Algebraic.lean ====
/-
# The kernel computes the reference's result

Where the mask holds, every row of every device's result is the reference's row: each row of the whole result is the place of one
token, and the device that has that place holds that token there, as its own or as one received.
-/
module

public import proofs.«01_k».proof.Proof.Values
public import proofs.«01_k».proof.Proof.Halves

@[expose] public section

noncomputable section

namespace Cert.Algebraic

open Cert.KernelIdeal Cert.KernelIdeal.Gen
open Idealize.ShloMosaic Idealize.ShloMosaic.TcCoe Idealize.SL.Sem
open Cert.Exchange Cert.Words Cert.Counts Cert.Places Cert.Values Cert.Halves Cert.RefValue
open Idealize.ShloMosaic.Pipeline (Dat Cfg Window)

/-! ## What the run writes -/

section final
variable {F : FTy → Type} [FloatOps F] (m : (ℓ : Loc nD τ sig) → Buf (Elt F) ℓ) (ρ : Dev nD → PrngReg) (hR : InRange m ρ)

theorem finalA_o (c : Dev nD) : finalA m ρ hR c (2 : Fin 3) = outAt m ρ c := by
  refine funext fun i => ?_
  have h := (dats m ρ hR 0 c).arrAt_emb_eq_flushed (2 : Fin 3) (fun t t' _ _ hne => absurd ((fin_N t).trans (fin_N t').symm) hne) (0 : Fin 1) rfl i
  have e : ((cfg0.win (2 : Fin 3)).blk (0 : Fin 1)).view.emb i = i := funext fun a => Fin.ext (by
    match a with
    | ⟨0, _⟩ => exact (Nat.zero_add _).trans (Nat.one_mul _)
    | ⟨1, _⟩ => exact (Nat.zero_add _).trans (Nat.one_mul _))
  exact (congrArg ((dats m ρ hR 0 c).arrAt (2 : Fin 3) cfg0.N) e.symm).trans h

end final

/-! ## The blocks -/

/-- A device's place as one of two. -/
def side (c : Dev nD) : Fin 2 := ⟨row c, row_lt c⟩

theorem lin_row : ∀ c : Dev nD, ((Layout.meshBlock [2, 2] ![[1], []] c : (b : Fin 2) → _) 0).val = row c := by decide
theorem lin_col : ∀ c : Dev nD, ((Layout.meshBlock [2, 2] ![[], [1]] c : (b : Fin 2) → _) 1).val = row c := by decide
theorem lin_row' : ∀ c : Dev nD, ((Layout.meshBlock [2, 2] ![[1], []] c : (b : Fin 2) → _) 1).val = 0 := by decide

/-- Row `r` of a device's block is row `1024 · row + r` of the whole. -/
theorem block_rows {α : Type} (v : (⟨2, ![2048, 512]⟩ : Shape).Idx → α) (c : Dev nD) (r : Fin 1024) (k : Fin 512) :
    (Layout.blockN ⟨2, ![1024, 512]⟩ ⟨2, ![2048, 512]⟩ (Layout.meshBlock [2, 2] ![[1], []] c) v : (⟨2, ![1024, 512]⟩ : Shape).Idx → α) (ValueIdx.ix2 r k)
      = v (ValueIdx.ix2 ⟨row c * 1024 + r.val, by have := row_lt c; have := r.isLt; omega⟩ k) := by
  refine congrArg v (funext fun a => Fin.ext ?_)
  match a with
  | ⟨0, _⟩ => exact congrArg (· * 1024 + r.val) (lin_row c)
  | ⟨1, _⟩ => exact (congrArg (· * 512 + k.val) (lin_row' c)).trans (by rw [Nat.zero_mul, Nat.zero_add])

/-- A device's destinations are one half of all. -/
theorem block_half (d : (⟨2, ![1, 2048]⟩ : Shape).Idx → BitVec 32) (c : Dev nD) :
    (Layout.blockN ⟨2, ![1, 1024]⟩ ⟨2, ![1, 2048]⟩ (Layout.meshBlock [2, 2] ![[], [1]] c) d : (⟨2, ![1, 1024]⟩ : Shape).Idx → BitVec 32) = half d (side c) := by
  refine funext fun i => congrArg d (funext fun a => ?_)
  match a with
  | ⟨0, _⟩ => exact Subsingleton.elim (α := Fin 1) _ _
  | ⟨1, _⟩ => exact Fin.ext (congrArg (· * 1024 + (i 1).val) (lin_col c))

/-! ## The two results -/

section rows

variable (m : (ℓ : Loc nD τ sig) → Buf (Elt Ideal) ℓ) (ρ : Dev nD → PrngReg) (hR : InRange m ρ)
  (X : FVec Ideal Cert.ReferenceIdeal.S2048x512 .bf16) (D : IVec Cert.ReferenceIdeal.S1x2048 32)
  (hD : Balanced D) (hd : ∀ c, dstg m ρ c = half D (side c))
  (hx : ∀ c i k, tok m ρ c i k = X (ValueIdx.ix2 ⟨row c * 1024 + i.val, by have := row_lt c; have := i.isLt; omega⟩ k))
include hR hD hd hx

/-- On every device, every row of the result is the reference's. -/
theorem row_eq (c : Dev nD) (r : Fin 1024) (k : Fin 512) :
    outRow m ρ c r k = result (F := Ideal) X D (ValueIdx.ix2 ⟨row c * 1024 + r.val, by have := row_lt c; have := r.isLt; omega⟩ k) := by
  have hc := row_lt c
  have hrl := r.isLt
  obtain ⟨g, hg, hp⟩ := place_surj (Zero D) (n := 2048) (r := row c * 1024 + r.val) (by omega)
  rw [result_place X D hD.bits ⟨g, hg⟩ _ hp.symm k]
  have htot : Nat.count (Zero D) 2048 = 1024 := (count_high D 1024 le_rfl).trans hD.all
  have s0 : row c = 0 → dstg m ρ c = half D 0 ∧ dstg m ρ (peer c) = half D 1 := fun h =>
    ⟨(hd c).trans (congrArg (half D) (Fin.ext h)), (hd _).trans (congrArg (half D) (Fin.ext ((row_peer c).trans (by rw [h]; rfl))))⟩
  have s1 : row c = 1 → dstg m ρ c = half D 1 ∧ dstg m ρ (peer c) = half D 0 := fun h =>
    ⟨(hd c).trans (congrArg (half D) (Fin.ext h)), (hd _).trans (congrArg (half D) (Fin.ext ((row_peer c).trans (by rw [h]; rfl))))⟩
  have ha := hD.all
  have hf := hD.first
  have fin (c' : Dev nD) (i : Fin 1024) (e : row c' * 1024 + i.val = g) : tok m ρ c' i k = X (ValueIdx.ix2 ⟨g, hg⟩ k) := by
    rw [hx c' i k]; exact congrArg (fun a => X (ValueIdx.ix2 a k)) (Fin.ext e)
  by_cases hz : Zero D g
  · rw [place_pos _ hz] at hp
    have hlt := Nat.count_strict_mono hz hg
    have h0 : row c = 0 := by omega
    obtain ⟨e0, e1⟩ := s0 h0
    have hpr : row (peer c) = 1 := by rw [row_peer, h0]
    by_cases hl : g < 1024
    · rw [count_low D g hl.le] at hp
      refine (own_zero m ρ hR c h0 ⟨g, hl⟩ r ?_ ?_ k).trans (fin c _ (by show row c * 1024 + g = g; omega))
      · rw [e0]; exact (zer_half D 0 g hl).mpr (by show Zero D (0 * 1024 + g); rwa [Nat.zero_mul, Nat.zero_add])
      · rw [e0]; show r.val = cz (half D 0) g; omega
    · have hl' : g - 1024 < 1024 := by omega
      have eg : 1024 + (g - 1024) = g := by omega
      rw [← eg, count_high D _ hl'.le] at hp
      refine (recv_zero m ρ hR c h0 ?_ ?_ ⟨g - 1024, hl'⟩ r ?_ ?_ k).trans (fin (peer c) _ (by show row (peer c) * 1024 + (g - 1024) = g; omega))
      · show cz (dstg m ρ c) 1024 + cz (dstg m ρ (peer c)) 1024 = 1024; rw [e0, e1]; exact ha
      · show 512 ≤ cz (dstg m ρ c) 1024; rw [e0]; exact hf
      · rw [e1]; exact (zer_half D 1 _ hl').mpr (by show Zero D (1 * 1024 + (g - 1024)); rwa [Nat.one_mul, eg])
      · show r.val = cz (dstg m ρ c) 1024 + cz (dstg m ρ (peer c)) (g - 1024); rw [e0, e1]; omega
  · rw [place_neg _ hz, htot] at hp
    have hcl := count_le (Zero D) g
    have h1 : row c = 1 := by omega
    obtain ⟨e1, e0⟩ := s1 h1
    have hpr : row (peer c) = 0 := by rw [row_peer, h1]
    have hall : nz m ρ c + nz m ρ (peer c) = 1024 := by
      show cz (dstg m ρ c) 1024 + cz (dstg m ρ (peer c)) 1024 = 1024; rw [e0, e1]; omega
    by_cases hl : g < 1024
    · rw [count_low D g hl.le] at hp
      refine (recv_one m ρ hR c h1 hall ?_ ⟨g, hl⟩ r ?_ ?_ k).trans (fin (peer c) _ (by show row (peer c) * 1024 + g = g; omega))
      · show 512 ≤ cz (dstg m ρ (peer c)) 1024; rw [e0]; exact hf
      · rw [e0]; exact fun h => hz (by have := (zer_half D 0 g hl).mp h; rwa [show (0 : Fin 2).val * 1024 + g = g from (congrArg (· + g) (Nat.zero_mul _)).trans (Nat.zero_add _)] at this)
      · rw [e0]; show r.val = g - cz (half D 0) g; omega
    · have hl' : g - 1024 < 1024 := by omega
      have eg : 1024 + (g - 1024) = g := by omega
      have hcz := cz_le (half D 1) (g - 1024)
      have hcount : Nat.count (Zero D) g = cz (half D 0) 1024 + cz (half D 1) (g - 1024) := by rw [← count_high D _ hl'.le, eg]
      rw [hcount] at hp hcl
      refine (own_one m ρ hR c h1 hall ⟨g - 1024, hl'⟩ r ?_ ?_ k).trans (fin c _ (by show row c * 1024 + (g - 1024) = g; omega))
      · rw [e1]; exact fun h => hz (by have := (zer_half D 1 _ hl').mp h; rwa [show (1 : Fin 2).val * 1024 + (g - 1024) = g from (congrArg (· + (g - 1024)) (Nat.one_mul _)).trans eg] at this)
      · show r.val = cz (dstg m ρ c) 1024 + ((g - 1024) - cz (dstg m ρ c) (g - 1024)); rw [e1]; omega

end rows

/-! ## The claim -/

theorem algebraic : Cert.algebraic_KernelIdeal_ReferenceIdeal_on_balanced := by
  intro m g m' g' hpre hargs
  have hR : InRange m g := Frames.inRange m g hpre
  refine ⟨result (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono (fun r h c => ⟨fun i hi => ?_, (h.1 c (0 : Fin 3)).trans (finalA_x m g hR c), (h.1 c (1 : Fin 3)).trans (finalA_d m g hR c)⟩) (run_main m g hR)
    have hD := balanced_of_mask (F := Ideal) _ _ _ hi
    have ho := congrFun ((h.1 c (2 : Fin 3)).trans (finalA_o m g hR c)) i
    refine ho.trans ?_
    obtain ⟨a, b, rfl⟩ : ∃ (a : Fin 1024) (b : Fin 512), i = ValueIdx.ix2 a b := ⟨i 0, i 1, funext fun z => by
      match z with
      | ⟨0, _⟩ => rfl
      | ⟨1, _⟩ => rfl⟩
    refine Eq.trans ?_ (block_rows _ c a b).symm
    exact row_eq m g hR _ _ hD (fun c => ((Frames.dstg_eq m g c).trans (hargs c).2).trans (block_half _ c))
      (fun c i k => (congrFun ((Frames.xstg_eq m g c).trans (hargs c).1) (ValueIdx.ix2 i k)).trans (block_rows _ c i k)) c a b
  · exact (θ_run Cert.ReferenceIdeal.defs _ _).mono (fun r h => ⟨fun i _ => congrFun (h 0).1 i, (h 0).2⟩) (Cert.ReferenceIdeal.Value.run (F := Ideal) m' g')

end Cert.Algebraic

end
-- ==== Proof.lean ====
/-
The claims, assembled.
-/
module

public import proofs.«01_k».proof.Defs
public import proofs.«01_k».proof.Proof.Gen.On_balanced
public import proofs.«01_k».proof.Proof.Gen.Pre_sendable_Kernel
public import proofs.«01_k».proof.Proof.Gen.Pre_sendable_ReferenceIdeal
public import proofs.«01_k».proof.Proof.Gen.ReferenceIdeal.Run
public import proofs.«01_k».proof.Proof.Frames
public import proofs.«01_k».proof.Proof.Algebraic

@[expose] public section

noncomputable section

namespace Cert.Proof

/-- Every program ends with its arguments unchanged and its semaphores at zero, the idealized
kernel is the kernel's own text, and it computes the reference's result. -/
theorem claim : Cert.Claim :=
  ⟨Cert.Kernel.Gen.facts, Cert.KernelIdeal.Gen.facts, Cert.ReferenceIdeal.Gen.facts,
    Cert.Pre_sendable_Kernel.Gen.facts, Cert.Pre_sendable_ReferenceIdeal.Gen.facts,
    Cert.On_balanced.Gen.facts, Cert.Frames.frame_kernel, Cert.Frames.frame_kernelIdeal,
    Cert.Frames.frame_reference, Cert.Frames.frame_reference_pre, trivial,
    Cert.Algebraic.algebraic⟩

end Cert.Proof

end
